-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_decay [hPre_finite_decay : Cert.Pre_finite_decay.Facts] (m : (ℓ : Loc Cert.KernelIdeal.nD Cert.KernelIdeal.τ Cert.KernelIdeal.sig) → Buf (Elt Ideal) ℓ) : Prop :=
  ∀ c : Dev Cert.KernelIdeal.nD,
    (Cert.Pre_finite_decay.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_decay [hPre_finite_decay : Cert.Pre_finite_decay.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_decay.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_bound [hPre_finite_bound : Cert.Pre_finite_bound.Facts] (m : (ℓ : Loc Cert.InprojIdeal.nD Cert.InprojIdeal.τ Cert.InprojIdeal.sig) → Buf (Elt Ideal) ℓ) : Prop :=
  ∀ c : Dev Cert.InprojIdeal.nD,
    (Cert.Pre_finite_bound.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_bound [hPre_finite_bound : Cert.Pre_finite_bound.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_bound.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_decay [hKernelIdeal : Cert.KernelIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_decay m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_decay [hReferenceIdeal : Cert.ReferenceIdeal.Facts] [hPre_finite_decay : Cert.Pre_finite_decay.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_decay m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16)
      ∧ r.2.mem ((c.tc : Thread Cert.Tail.nD Cert.Tail.τ).loc Cert.Tail.main_arg17) = m ((c.tc : Thread Cert.Tail.nD Cert.Tail.τ).loc Cert.Tail.main_arg17)
      ∧ r.2.mem ((c.tc : Thread Cert.Tail.nD Cert.Tail.τ).loc Cert.Tail.main_arg18) = m ((c.tc : Thread Cert.Tail.nD Cert.Tail.τ).loc Cert.Tail.main_arg18))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
      ∧ r.2.mem ((c.tc : Thread Cert.TailIdeal.nD Cert.TailIdeal.τ).loc Cert.TailIdeal.main_arg18) = m ((c.tc : Thread Cert.TailIdeal.nD Cert.TailIdeal.τ).loc Cert.TailIdeal.main_arg18))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14)
      ∧ r.2.mem ((c.tc : Thread Cert.TailRefIdeal.nD Cert.TailRefIdeal.τ).loc Cert.TailRefIdeal.main_arg15) = m ((c.tc : Thread Cert.TailRefIdeal.nD Cert.TailRefIdeal.τ).loc Cert.TailRefIdeal.main_arg15)
      ∧ r.2.mem ((c.tc : Thread Cert.TailRefIdeal.nD Cert.TailRefIdeal.τ).loc Cert.TailRefIdeal.main_arg16) = m ((c.tc : Thread Cert.TailRefIdeal.nD Cert.TailRefIdeal.τ).loc Cert.TailRefIdeal.main_arg16)
      ∧ r.2.mem ((c.tc : Thread Cert.TailRefIdeal.nD Cert.TailRefIdeal.τ).loc Cert.TailRefIdeal.main_arg17) = m ((c.tc : Thread Cert.TailRefIdeal.nD Cert.TailRefIdeal.τ).loc Cert.TailRefIdeal.main_arg17)
      ∧ r.2.mem ((c.tc : Thread Cert.TailRefIdeal.nD Cert.TailRefIdeal.τ).loc Cert.TailRefIdeal.main_arg18) = m ((c.tc : Thread Cert.TailRefIdeal.nD Cert.TailRefIdeal.τ).loc Cert.TailRefIdeal.main_arg18))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojIdeal_pre_finite_bound [hInprojIdeal : Cert.InprojIdeal.Facts] [hPre_finite_bound : Cert.Pre_finite_bound.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_bound m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_InprojRefIdeal_pre_finite_bound [hInprojRefIdeal : Cert.InprojRefIdeal.Facts] [hPre_finite_bound : Cert.Pre_finite_bound.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_bound m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def preserves_Kernel_KernelIdeal : Prop :=
  True

def algebraic_KernelIdeal_ReferenceIdeal_pre_finite_decay [hKernelIdeal : Cert.KernelIdeal.Facts] [hReferenceIdeal : Cert.ReferenceIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_decay m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)
      ∧ m' ((c.tc : Thread Cert.TailRefIdeal.nD Cert.TailRefIdeal.τ).loc Cert.TailRefIdeal.main_arg15) = m ((c.tc : Thread Cert.TailIdeal.nD Cert.TailIdeal.τ).loc Cert.TailIdeal.main_arg15)
      ∧ m' ((c.tc : Thread Cert.TailRefIdeal.nD Cert.TailRefIdeal.τ).loc Cert.TailRefIdeal.main_arg16) = m ((c.tc : Thread Cert.TailIdeal.nD Cert.TailIdeal.τ).loc Cert.TailIdeal.main_arg16)
      ∧ m' ((c.tc : Thread Cert.TailRefIdeal.nD Cert.TailRefIdeal.τ).loc Cert.TailRefIdeal.main_arg17) = m ((c.tc : Thread Cert.TailIdeal.nD Cert.TailIdeal.τ).loc Cert.TailIdeal.main_arg17)
      ∧ m' ((c.tc : Thread Cert.TailRefIdeal.nD Cert.TailRefIdeal.τ).loc Cert.TailRefIdeal.main_arg18) = m ((c.tc : Thread Cert.TailIdeal.nD Cert.TailIdeal.τ).loc Cert.TailIdeal.main_arg18)) →
    ∃ (v0 : (c : Dev Cert.TailIdeal.nD) → Buf (Elt Ideal) ((c.tc : Thread Cert.TailIdeal.nD Cert.TailIdeal.τ).loc Cert.TailIdeal.main_v29)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v29) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
          ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
          ∧ r.2.mem ((c.tc : Thread Cert.TailIdeal.nD Cert.TailIdeal.τ).loc Cert.TailIdeal.main_arg18) = m ((c.tc : Thread Cert.TailIdeal.nD Cert.TailIdeal.τ).loc Cert.TailIdeal.main_arg18))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v116) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14)
          ∧ r.2.mem ((c.tc : Thread Cert.TailRefIdeal.nD Cert.TailRefIdeal.τ).loc Cert.TailRefIdeal.main_arg15) = m' ((c.tc : Thread Cert.TailRefIdeal.nD Cert.TailRefIdeal.τ).loc Cert.TailRefIdeal.main_arg15)
          ∧ r.2.mem ((c.tc : Thread Cert.TailRefIdeal.nD Cert.TailRefIdeal.τ).loc Cert.TailRefIdeal.main_arg16) = m' ((c.tc : Thread Cert.TailRefIdeal.nD Cert.TailRefIdeal.τ).loc Cert.TailRefIdeal.main_arg16)
          ∧ r.2.mem ((c.tc : Thread Cert.TailRefIdeal.nD Cert.TailRefIdeal.τ).loc Cert.TailRefIdeal.main_arg17) = m' ((c.tc : Thread Cert.TailRefIdeal.nD Cert.TailRefIdeal.τ).loc Cert.TailRefIdeal.main_arg17)
          ∧ r.2.mem ((c.tc : Thread Cert.TailRefIdeal.nD Cert.TailRefIdeal.τ).loc Cert.TailRefIdeal.main_arg18) = m' ((c.tc : Thread Cert.TailRefIdeal.nD Cert.TailRefIdeal.τ).loc Cert.TailRefIdeal.main_arg18))

def preserves_Inproj_InprojIdeal : Prop :=
  True

def algebraic_InprojIdeal_InprojRefIdeal_pre_finite_bound [hInprojIdeal : Cert.InprojIdeal.Facts] [hInprojRefIdeal : Cert.InprojRefIdeal.Facts] [hPre_finite_bound : Cert.Pre_finite_bound.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_bound m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v30_0)) (v1 : (c : Dev Cert.InprojIdeal.nD) → Buf (Elt Ideal) ((c.tc : Thread Cert.InprojIdeal.nD Cert.InprojIdeal.τ).loc Cert.InprojIdeal.main_v30_1)) (v2 : (c : Dev Cert.InprojIdeal.nD) → Buf (Elt Ideal) ((c.tc : Thread Cert.InprojIdeal.nD Cert.InprojIdeal.τ).loc Cert.InprojIdeal.main_v30_2)) (v3 : (c : Dev Cert.InprojIdeal.nD) → Buf (Elt Ideal) ((c.tc : Thread Cert.InprojIdeal.nD Cert.InprojIdeal.τ).loc Cert.InprojIdeal.main_v30_3)) (v4 : (c : Dev Cert.InprojIdeal.nD) → Buf (Elt Ideal) ((c.tc : Thread Cert.InprojIdeal.nD Cert.InprojIdeal.τ).loc Cert.InprojIdeal.main_v30_4)) (v5 : (c : Dev Cert.InprojIdeal.nD) → Buf (Elt Ideal) ((c.tc : Thread Cert.InprojIdeal.nD Cert.InprojIdeal.τ).loc Cert.InprojIdeal.main_v30_5)) (v6 : (c : Dev Cert.InprojIdeal.nD) → Buf (Elt Ideal) ((c.tc : Thread Cert.InprojIdeal.nD Cert.InprojIdeal.τ).loc Cert.InprojIdeal.main_v30_6)) (v7 : (c : Dev Cert.InprojIdeal.nD) → Buf (Elt Ideal) ((c.tc : Thread Cert.InprojIdeal.nD Cert.InprojIdeal.τ).loc Cert.InprojIdeal.main_v30_7)) (v8 : (c : Dev Cert.InprojIdeal.nD) → Buf (Elt Ideal) ((c.tc : Thread Cert.InprojIdeal.nD Cert.InprojIdeal.τ).loc Cert.InprojIdeal.main_v30_8)) (v9 : (c : Dev Cert.InprojIdeal.nD) → Buf (Elt Ideal) ((c.tc : Thread Cert.InprojIdeal.nD Cert.InprojIdeal.τ).loc Cert.InprojIdeal.main_v30_9)) (v10 : (c : Dev Cert.InprojIdeal.nD) → Buf (Elt Ideal) ((c.tc : Thread Cert.InprojIdeal.nD Cert.InprojIdeal.τ).loc Cert.InprojIdeal.main_v30_10)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v30_0) = v0 c
          ∧ r.2.mem ((c.tc : Thread Cert.InprojIdeal.nD Cert.InprojIdeal.τ).loc Cert.InprojIdeal.main_v30_1) = v1 c
          ∧ r.2.mem ((c.tc : Thread Cert.InprojIdeal.nD Cert.InprojIdeal.τ).loc Cert.InprojIdeal.main_v30_2) = v2 c
          ∧ r.2.mem ((c.tc : Thread Cert.InprojIdeal.nD Cert.InprojIdeal.τ).loc Cert.InprojIdeal.main_v30_3) = v3 c
          ∧ r.2.mem ((c.tc : Thread Cert.InprojIdeal.nD Cert.InprojIdeal.τ).loc Cert.InprojIdeal.main_v30_4) = v4 c
          ∧ r.2.mem ((c.tc : Thread Cert.InprojIdeal.nD Cert.InprojIdeal.τ).loc Cert.InprojIdeal.main_v30_5) = v5 c
          ∧ r.2.mem ((c.tc : Thread Cert.InprojIdeal.nD Cert.InprojIdeal.τ).loc Cert.InprojIdeal.main_v30_6) = v6 c
          ∧ r.2.mem ((c.tc : Thread Cert.InprojIdeal.nD Cert.InprojIdeal.τ).loc Cert.InprojIdeal.main_v30_7) = v7 c
          ∧ r.2.mem ((c.tc : Thread Cert.InprojIdeal.nD Cert.InprojIdeal.τ).loc Cert.InprojIdeal.main_v30_8) = v8 c
          ∧ r.2.mem ((c.tc : Thread Cert.InprojIdeal.nD Cert.InprojIdeal.τ).loc Cert.InprojIdeal.main_v30_9) = v9 c
          ∧ r.2.mem ((c.tc : Thread Cert.InprojIdeal.nD Cert.InprojIdeal.τ).loc Cert.InprojIdeal.main_v30_10) = v10 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v72) = v0 c
          ∧ r.2.mem ((c.tc : Thread Cert.InprojRefIdeal.nD Cert.InprojRefIdeal.τ).loc Cert.InprojRefIdeal.main_v73) = v1 c
          ∧ r.2.mem ((c.tc : Thread Cert.InprojRefIdeal.nD Cert.InprojRefIdeal.τ).loc Cert.InprojRefIdeal.main_v76) = v2 c
          ∧ r.2.mem ((c.tc : Thread Cert.InprojRefIdeal.nD Cert.InprojRefIdeal.τ).loc Cert.InprojRefIdeal.main_v77) = v3 c
          ∧ r.2.mem ((c.tc : Thread Cert.InprojRefIdeal.nD Cert.InprojRefIdeal.τ).loc Cert.InprojRefIdeal.main_v79) = v4 c
          ∧ r.2.mem ((c.tc : Thread Cert.InprojRefIdeal.nD Cert.InprojRefIdeal.τ).loc Cert.InprojRefIdeal.main_v83) = v5 c
          ∧ r.2.mem ((c.tc : Thread Cert.InprojRefIdeal.nD Cert.InprojRefIdeal.τ).loc Cert.InprojRefIdeal.main_v84) = v6 c
          ∧ r.2.mem ((c.tc : Thread Cert.InprojRefIdeal.nD Cert.InprojRefIdeal.τ).loc Cert.InprojRefIdeal.main_v86) = v7 c
          ∧ r.2.mem ((c.tc : Thread Cert.InprojRefIdeal.nD Cert.InprojRefIdeal.τ).loc Cert.InprojRefIdeal.main_v70) = v8 c
          ∧ r.2.mem ((c.tc : Thread Cert.InprojRefIdeal.nD Cert.InprojRefIdeal.τ).loc Cert.InprojRefIdeal.main_v93) = v9 c
          ∧ r.2.mem ((c.tc : Thread Cert.InprojRefIdeal.nD Cert.InprojRefIdeal.τ).loc Cert.InprojRefIdeal.main_v100) = v10 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailRefIdeal : Cert.TailRefIdeal.Facts) (hInproj : Cert.Inproj.Facts) (hInprojIdeal : Cert.InprojIdeal.Facts) (hInprojRefIdeal : Cert.InprojRefIdeal.Facts) (hPre_finite_decay : Cert.Pre_finite_decay.Facts) (hPre_finite_bound : Cert.Pre_finite_bound.Facts),
    quiescent_Kernel (hKernel := hKernel)
    ∧ quiescent_KernelIdeal (hKernelIdeal := hKernelIdeal)
    ∧ quiescent_KernelIdeal_pre_finite_decay (hKernelIdeal := hKernelIdeal) (hPre_finite_decay := hPre_finite_decay)
    ∧ quiescent_ReferenceIdeal (hReferenceIdeal := hReferenceIdeal)
    ∧ quiescent_ReferenceIdeal_pre_finite_decay (hReferenceIdeal := hReferenceIdeal) (hPre_finite_decay := hPre_finite_decay)
    ∧ quiescent_Tail (hTail := hTail)
    ∧ quiescent_TailIdeal (hTailIdeal := hTailIdeal)
    ∧ quiescent_TailRefIdeal (hTailRefIdeal := hTailRefIdeal)
    ∧ quiescent_Inproj (hInproj := hInproj)
    ∧ quiescent_InprojIdeal (hInprojIdeal := hInprojIdeal)
    ∧ quiescent_InprojIdeal_pre_finite_bound (hInprojIdeal := hInprojIdeal) (hPre_finite_bound := hPre_finite_bound)
    ∧ quiescent_InprojRefIdeal (hInprojRefIdeal := hInprojRefIdeal)
    ∧ quiescent_InprojRefIdeal_pre_finite_bound (hInprojRefIdeal := hInprojRefIdeal) (hPre_finite_bound := hPre_finite_bound)
    ∧ preserves_Kernel_KernelIdeal
    ∧ algebraic_KernelIdeal_ReferenceIdeal_pre_finite_decay (hKernelIdeal := hKernelIdeal) (hReferenceIdeal := hReferenceIdeal) (hPre_finite_decay := hPre_finite_decay)
    ∧ preserves_Tail_TailIdeal
    ∧ algebraic_TailIdeal_TailRefIdeal (hTailIdeal := hTailIdeal) (hTailRefIdeal := hTailRefIdeal)
    ∧ preserves_Inproj_InprojIdeal
    ∧ algebraic_InprojIdeal_InprojRefIdeal_pre_finite_bound (hInprojIdeal := hInprojIdeal) (hInprojRefIdeal := hInprojRefIdeal) (hPre_finite_bound := hPre_finite_bound)
-- ==== Pre_finite_bound.lean ====
abbrev S16x4096x1024 : Shape := ⟨3, ![16, 4096, 1024]⟩
abbrev S1024 : Shape := ⟨1, ![1024]⟩
abbrev S1x1024x5640 : Shape := ⟨3, ![1, 1024, 5640]⟩
abbrev S2x512 : Shape := ⟨2, ![2, 512]⟩
abbrev S1x8 : Shape := ⟨2, ![1, 8]⟩
abbrev S_ : Shape := ⟨0, ![]⟩

class Facts : Prop where
  bcast_S_S2x512 : S_.BroadcastsInDim S2x512 (![] : Fin 0 → Fin S2x512.rank)

variable [Facts]

def fn {F : FTy → Type} [FloatOps F] (main_arg0 : FVec F S16x4096x1024 .f32) (main_arg1 : FVec F S1024 .f32) (main_arg2 : FVec F S1024 .f32) (main_arg3 : FVec F S1x1024x5640 .f32) (main_arg4 : FVec F S2x512 .f32) (main_arg5 : FVec F S1x8 .f32) : IVec S2x512 1 :=
  let main_v0 : FVec F S2x512 .f32 := Host.absf main_arg4
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  main_v2
-- ==== Pre_finite_decay.lean ====
abbrev S16x4096x512 : Shape := ⟨3, ![16, 4096, 512]⟩
abbrev S1x512 : Shape := ⟨2, ![1, 512]⟩
abbrev S_ : Shape := ⟨0, ![]⟩

class Facts : Prop where
  bcast_S_S16x4096x512 : S_.BroadcastsInDim S16x4096x512 (![] : Fin 0 → Fin S16x4096x512.rank)

variable [Facts]

def fn {F : FTy → Type} [FloatOps F] (main_arg0 : FVec F S16x4096x512 .bf16) (main_arg1 : FVec F S16x4096x512 .f32) (main_arg2 : FVec F S16x4096x512 .bf16) (main_arg3 : FVec F S16x4096x512 .bf16) (main_arg4 : FVec F S16x4096x512 .bf16) (main_arg5 : FVec F S1x512 .f32) : IVec S16x4096x512 1 :=
  let main_v0 : FVec F S16x4096x512 .f32 := Host.absf main_arg1
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  main_v2
-- ==== Kernel.lean ====
abbrev S16x4096x512 : Shape := ⟨3, ![16, 4096, 512]⟩
abbrev S1x512 : Shape := ⟨2, ![1, 512]⟩
abbrev S448x192 : Shape := ⟨2, ![448, 192]⟩
abbrev S1x1024x512 : Shape := ⟨3, ![1, 1024, 512]⟩
abbrev S4x128x128 : Shape := ⟨3, ![4, 128, 128]⟩
abbrev S4x448x2048 : Shape := ⟨3, ![4, 448, 2048]⟩
abbrev S64x64 : Shape := ⟨2, ![64, 64]⟩
abbrev S1x1024x128 : Shape := ⟨3, ![1, 1024, 128]⟩
abbrev S1024x128 : Shape := ⟨2, ![1024, 128]⟩
abbrev S64x128 : Shape := ⟨2, ![64, 128]⟩
abbrev S64x2048 : Shape := ⟨2, ![64, 2048]⟩
abbrev S192x2048 : Shape := ⟨2, ![192, 2048]⟩
abbrev S448x2048 : Shape := ⟨2, ![448, 2048]⟩
abbrev S1x448x2048 : Shape := ⟨3, ![1, 448, 2048]⟩
abbrev S128x128 : Shape := ⟨2, ![128, 128]⟩
abbrev S128x64 : Shape := ⟨2, ![128, 64]⟩
abbrev S1x64x2048 : Shape := ⟨3, ![1, 64, 2048]⟩
abbrev S1x128x128 : Shape := ⟨3, ![1, 128, 128]⟩
abbrev S1x128 : Shape := ⟨2, ![1, 128]⟩
abbrev S64 : Shape := ⟨1, ![64]⟩
abbrev S64x1 : Shape := ⟨2, ![64, 1]⟩
abbrev S1x64x128 : Shape := ⟨3, ![1, 64, 128]⟩

abbrev nBuf : Space → Nat
  | .hbm => 8
  | .vmem => 16
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .f32⟩
  | .hbm, ⟨2, _⟩ => ⟨S16x4096x512, .bf16⟩
  | .hbm, ⟨3, _⟩ => ⟨S16x4096x512, .bf16⟩
  | .hbm, ⟨4, _⟩ => ⟨S16x4096x512, .bf16⟩
  | .hbm, ⟨5, _⟩ => ⟨S1x512, .f32⟩
  | .hbm, ⟨6, _⟩ => ⟨S448x192, .bf16⟩
  | .hbm, ⟨7, _⟩ => ⟨S16x4096x512, .bf16⟩
  | .local _ .vmem, ⟨0, _⟩ => ⟨S448x192, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .f32⟩
  | .local _ .vmem, ⟨4, _⟩ => ⟨S1x1024x512, .f32⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512, .f32⟩
  | .local _ .vmem, ⟨12, _⟩ => ⟨S1x1024x512, .bf16⟩
  | .local _ .vmem, ⟨13, _⟩ => ⟨S1x1024x512, .bf16⟩
  | .local _ .vmem, ⟨14, _⟩ => ⟨S4x128x128, .f32⟩
  | .local _ .vmem, ⟨15, _⟩ => ⟨S4x448x2048, .f32⟩
  | _, _ => ⟨S16x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S448x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16x4096x512 : Shape := ⟨3, ![16, 4096, 512]⟩
abbrev S1x512 : Shape := ⟨2, ![1, 512]⟩
abbrev S16x64x64x4x128 : Shape := ⟨5, ![16, 64, 64, 4, 128]⟩
abbrev S64x16x4x64x128 : Shape := ⟨5, ![64, 16, 4, 64, 128]⟩
abbrev S_ : Shape := ⟨0, ![]⟩
abbrev S16x4x128x128 : Shape := ⟨4, ![16, 4, 128, 128]⟩
abbrev S1x16x4x64x128 : Shape := ⟨5, ![1, 16, 4, 64, 128]⟩
abbrev S16x4x64x128 : Shape := ⟨4, ![16, 4, 64, 128]⟩
abbrev S64x64 : Shape := ⟨2, ![64, 64]⟩
abbrev S64x64x1 : Shape := ⟨3, ![64, 64, 1]⟩
abbrev S16x4x64x1x128 : Shape := ⟨5, ![16, 4, 64, 1, 128]⟩
abbrev S16x4x1x64x128 : Shape := ⟨5, ![16, 4, 1, 64, 128]⟩
abbrev S16x4x64x64x128 : Shape := ⟨5, ![16, 4, 64, 64, 128]⟩
abbrev S16x4x64x64 : Shape := ⟨4, ![16, 4, 64, 64]⟩
abbrev S16x4x1x128 : Shape := ⟨4, ![16, 4, 1, 128]⟩
abbrev S16x4x128 : Shape := ⟨3, ![16, 4, 128]⟩
abbrev S16x4x128x1 : Shape := ⟨4, ![16, 4, 128, 1]⟩
abbrev S16x4096x4x128 : Shape := ⟨4, ![16, 4096, 4, 128]⟩
abbrev S16x4096x4 : Shape := ⟨3, ![16, 4096, 4]⟩
abbrev S16x4096x4x1 : Shape := ⟨4, ![16, 4096, 4, 1]⟩
abbrev S512 : Shape := ⟨1, ![512]⟩
abbrev S1x1x512 : Shape := ⟨3, ![1, 1, 512]⟩

abbrev nBuf : Space → Nat
  | .hbm => 137
  | .vmem => 0
  | .smem => 0
  | _ => 0

abbrev hbmTy0_0 (i : Nat) : BufTy := match i % 128 with
  | 0 => ⟨S16x4096x512, .bf16⟩
  | 1 => ⟨S16x4096x512, .f32⟩
  | 2 => ⟨S16x4096x512, .bf16⟩
  | 3 => ⟨S16x4096x512, .bf16⟩
  | 4 => ⟨S16x4096x512, .bf16⟩
  | 5 => ⟨S1x512, .f32⟩
  | 6 => ⟨S16x4096x512, .f32⟩
  | 7 => ⟨S16x64x64x4x128, .f32⟩
  | 8 => ⟨S64x16x4x64x128, .f32⟩
  | 9 => ⟨S16x4096x512, .f32⟩
  | 10 => ⟨S16x64x64x4x128, .f32⟩
  | 11 => ⟨S64x16x4x64x128, .f32⟩
  | 12 => ⟨S16x4096x512, .f32⟩
  | 13 => ⟨S16x64x64x4x128, .f32⟩
  | 14 => ⟨S64x16x4x64x128, .f32⟩
  | 15 => ⟨S16x64x64x4x128, .f32⟩
  | 16 => ⟨S64x16x4x64x128, .f32⟩
  | 17 => ⟨S_, .f32⟩
  | 18 => ⟨S16x4x128x128, .f32⟩
  | 19 => ⟨S_, .f32⟩
  | 20 => ⟨S64x16x4x64x128, .f32⟩
  | 21 => ⟨S_, .i32⟩
  | 22 => ⟨S64x16x4x64x128, .f32⟩
  | 23 => ⟨S64x16x4x64x128, .f32⟩
  | 24 => ⟨S64x16x4x64x128, .f32⟩
  | 25 => ⟨S64x16x4x64x128, .f32⟩
  | 26 => ⟨S_, .i32⟩
  | 27 => ⟨S16x4x128x128, .f32⟩
  | 28 => ⟨S64x16x4x64x128, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S1x16x4x64x128, .f32⟩
  | 36 => ⟨S16x4x64x128, .f32⟩
  | 37 => ⟨S_, .i32⟩
  | 38 => ⟨S_, .i32⟩
  | 39 => ⟨S_, .i32⟩
  | 40 => ⟨S_, .i32⟩
  | 41 => ⟨S1x16x4x64x128, .f32⟩
  | 42 => ⟨S16x4x64x128, .f32⟩
  | 43 => ⟨S_, .i32⟩
  | 44 => ⟨S_, .i32⟩
  | 45 => ⟨S_, .i32⟩
  | 46 => ⟨S_, .i32⟩
  | 47 => ⟨S1x16x4x64x128, .f32⟩
  | 48 => ⟨S16x4x64x128, .f32⟩
  | 49 => ⟨S_, .i32⟩
  | 50 => ⟨S_, .i32⟩
  | 51 => ⟨S_, .i32⟩
  | 52 => ⟨S_, .i32⟩
  | 53 => ⟨S1x16x4x64x128, .f32⟩
  | 54 => ⟨S16x4x64x128, .f32⟩
  | 55 => ⟨S_, .f32⟩
  | 56 => ⟨S_, .f32⟩
  | 57 => ⟨S16x4x64x128, .f32⟩
  | 58 => ⟨S_, .i1⟩
  | 59 => ⟨S64x64, .i1⟩
  | 60 => ⟨S64x64, .i32⟩
  | 61 => ⟨S_, .i32⟩
  | 62 => ⟨S64x64, .i32⟩
  | 63 => ⟨S64x64, .i32⟩
  | 64 => ⟨S64x64, .i32⟩
  | 65 => ⟨S64x64, .i1⟩
  | 66 => ⟨S_, .i1⟩
  | 67 => ⟨S64x64, .i1⟩
  | 68 => ⟨S64x64, .i1⟩
  | 69 => ⟨S64x64x1, .i1⟩
  | 70 => ⟨S16x4x64x1x128, .f32⟩
  | 71 => ⟨S16x4x1x64x128, .f32⟩
  | 72 => ⟨S16x4x64x64x128, .f32⟩
  | 73 => ⟨S16x4x64x64x128, .f32⟩
  | 74 => ⟨S16x4x64x64x128, .f32⟩
  | 75 => ⟨S_, .f32⟩
  | 76 => ⟨S_, .f32⟩
  | 77 => ⟨S16x4x64x64x128, .i1⟩
  | 78 => ⟨S16x4x64x64x128, .f32⟩
  | 79 => ⟨S16x4x64x64x128, .f32⟩
  | 80 => ⟨S16x4x64x64x128, .f32⟩
  | 81 => ⟨S16x4x64x1x128, .f32⟩
  | 82 => ⟨S16x4x64x64x128, .f32⟩
  | 83 => ⟨S16x4x64x64x128, .f32⟩
  | 84 => ⟨S16x4x1x64x128, .f32⟩
  | 85 => ⟨S16x4x64x64x128, .f32⟩
  | 86 => ⟨S16x4x64x64x128, .f32⟩
  | 87 => ⟨S_, .f32⟩
  | 88 => ⟨S16x4x64x64, .f32⟩
  | 89 => ⟨S16x4x64x128, .f32⟩
  | 90 => ⟨S16x4x64x128, .f32⟩
  | 91 => ⟨S16x4x64x128, .f32⟩
  | 92 => ⟨S16x4x64x128, .f32⟩
  | 93 => ⟨S16x4x64x128, .f32⟩
  | 94 => ⟨S16x4x1x128, .f32⟩
  | 95 => ⟨S16x4x128, .f32⟩
  | 96 => ⟨S16x4x128, .f32⟩
  | 97 => ⟨S16x4x128x1, .f32⟩
  | 98 => ⟨S16x4x128x128, .f32⟩
  | 99 => ⟨S16x4x128x128, .f32⟩
  | 100 => ⟨S16x4x64x128, .f32⟩
  | 101 => ⟨S16x4x64x128, .f32⟩
  | 102 => ⟨S16x4x64x128, .f32⟩
  | 103 => ⟨S16x4x64x128, .f32⟩
  | 104 => ⟨S16x4x128x128, .f32⟩
  | 105 => ⟨S16x4x128x128, .f32⟩
  | 106 => ⟨S1x16x4x64x128, .f32⟩
  | 107 => ⟨S_, .i32⟩
  | 108 => ⟨S_, .i32⟩
  | 109 => ⟨S_, .i32⟩
  | 110 => ⟨S_, .i32⟩
  | 111 => ⟨S64x16x4x64x128, .f32⟩
  | 112 => ⟨S_, .i32⟩
  | 113 => ⟨S_, .i32⟩
  | 114 => ⟨S16x64x64x4x128, .f32⟩
  | 115 => ⟨S16x4096x4x128, .f32⟩
  | 116 => ⟨S16x4096x4x128, .f32⟩
  | 117 => ⟨S_, .f32⟩
  | 118 => ⟨S16x4096x4, .f32⟩
  | 119 => ⟨S16x4096x4x1, .f32⟩
  | 120 => ⟨S_, .f32⟩
  | 121 => ⟨S16x4096x4x1, .f32⟩
  | 122 => ⟨S16x4096x4x1, .f32⟩
  | 123 => ⟨S_, .f32⟩
  | 124 => ⟨S16x4096x4x1, .f32⟩
  | 125 => ⟨S16x4096x4x1, .f32⟩
  | 126 => ⟨S16x4096x4x1, .f32⟩
  | 127 => ⟨S16x4096x4x128, .f32⟩
  | _ => ⟨S16x4096x512, .bf16⟩

abbrev hbmTy0_1 (i : Nat) : BufTy := match i % 128 with
  | 0 => ⟨S16x4096x4x128, .f32⟩
  | 1 => ⟨S16x4096x512, .f32⟩
  | 2 => ⟨S512, .f32⟩
  | 3 => ⟨S1x1x512, .f32⟩
  | 4 => ⟨S16x4096x512, .f32⟩
  | 5 => ⟨S16x4096x512, .f32⟩
  | 6 => ⟨S16x4096x512, .f32⟩
  | 7 => ⟨S16x4096x512, .f32⟩
  | 8 => ⟨S16x4096x512, .bf16⟩
  | _ => ⟨S16x4096x512, .bf16⟩

abbrev hbmTy (i : Nat) : BufTy := match i / 128 with
  | 0 => hbmTy0_0 i
  | 1 => hbmTy0_1 i
  | _ => ⟨S16x4096x512, .bf16⟩

abbrev bufTy : (tb : Table) → Fin (tcTables nBuf tb) → BufTy
  | .hbm, ⟨i, _⟩ => hbmTy i
  | _, _ => ⟨S16x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_c : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_while0c_c_10 : Ref sig .tc := ⟨.hbm, 29, rfl⟩
abbrev main_while0c_v34 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_c_1 : Ref sig .tc := ⟨.hbm, 33, rfl⟩
abbrev main_while0b_call0_c_2 : Ref sig .tc := ⟨.hbm, 34, rfl⟩
abbrev main_while0b_call0_v0 : Ref sig .tc := ⟨.hbm, 35, rfl⟩
abbrev main_while0b_v34 : Ref sig .tc := ⟨.hbm, 36, rfl⟩
abbrev main_while0b_call1_c : Ref sig .tc := ⟨.hbm, 37, rfl⟩
abbrev main_while0b_call1_c_0 : Ref sig .tc := ⟨.hbm, 38, rfl⟩
abbrev main_while0b_call1_c_1 : Ref sig .tc := ⟨.hbm, 39, rfl⟩
abbrev main_while0b_call1_c_2 : Ref sig .tc := ⟨.hbm, 40, rfl⟩
abbrev main_while0b_call1_v0 : Ref sig .tc := ⟨.hbm, 41, rfl⟩
abbrev main_while0b_v35 : Ref sig .tc := ⟨.hbm, 42, rfl⟩
abbrev main_while0b_call2_c : Ref sig .tc := ⟨.hbm, 43, rfl⟩
abbrev main_while0b_call2_c_0 : Ref sig .tc := ⟨.hbm, 44, rfl⟩
abbrev main_while0b_call2_c_1 : Ref sig .tc := ⟨.hbm, 45, rfl⟩
abbrev main_while0b_call2_c_2 : Ref sig .tc := ⟨.hbm, 46, rfl⟩
abbrev main_while0b_call2_v0 : Ref sig .tc := ⟨.hbm, 47, rfl⟩
abbrev main_while0b_v36 : Ref sig .tc := ⟨.hbm, 48, rfl⟩
abbrev main_while0b_call3_c : Ref sig .tc := ⟨.hbm, 49, rfl⟩
abbrev main_while0b_call3_c_0 : Ref sig .tc := ⟨.hbm, 50, rfl⟩
abbrev main_while0b_call3_c_1 : Ref sig .tc := ⟨.hbm, 51, rfl⟩
abbrev main_while0b_call3_c_2 : Ref sig .tc := ⟨.hbm, 52, rfl⟩
abbrev main_while0b_call3_v0 : Ref sig .tc := ⟨.hbm, 53, rfl⟩
abbrev main_while0b_v37 : Ref sig .tc := ⟨.hbm, 54, rfl⟩
abbrev main_while0b_call4_call0_cst : Ref sig .tc := ⟨.hbm, 55, rfl⟩
abbrev main_while0b_call4_call0_v0 : Ref sig .tc := ⟨.hbm, 56, rfl⟩
abbrev main_while0b_v38 : Ref sig .tc := ⟨.hbm, 57, rfl⟩
abbrev main_while0b_c_10 : Ref sig .tc := ⟨.hbm, 58, rfl⟩
abbrev main_while0b_v39 : Ref sig .tc := ⟨.hbm, 59, rfl⟩
abbrev main_while0b_call5_v0 : Ref sig .tc := ⟨.hbm, 60, rfl⟩
abbrev main_while0b_call5_c : Ref sig .tc := ⟨.hbm, 61, rfl⟩
abbrev main_while0b_call5_v1 : Ref sig .tc := ⟨.hbm, 62, rfl⟩
abbrev main_while0b_call5_v2 : Ref sig .tc := ⟨.hbm, 63, rfl⟩
abbrev main_while0b_call5_v3 : Ref sig .tc := ⟨.hbm, 64, rfl⟩
abbrev main_while0b_call5_v4 : Ref sig .tc := ⟨.hbm, 65, rfl⟩
abbrev main_while0b_call5_c_0 : Ref sig .tc := ⟨.hbm, 66, rfl⟩
abbrev main_while0b_call5_v5 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_v43 : Ref sig .tc := ⟨.hbm, 71, rfl⟩
abbrev main_while0b_v44 : Ref sig .tc := ⟨.hbm, 72, rfl⟩
abbrev main_while0b_v45 : Ref sig .tc := ⟨.hbm, 73, rfl⟩
abbrev main_while0b_v46 : Ref sig .tc := ⟨.hbm, 74, rfl⟩
abbrev main_while0b_cst_11 : Ref sig .tc := ⟨.hbm, 75, rfl⟩
abbrev main_while0b_call6_v0 : Ref sig .tc := ⟨.hbm, 76, rfl⟩
abbrev main_while0b_call6_v1 : Ref sig .tc := ⟨.hbm, 77, rfl⟩
abbrev main_while0b_call6_v2 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_cst_12 : Ref sig .tc := ⟨.hbm, 87, rfl⟩
abbrev main_while0b_v55 : Ref sig .tc := ⟨.hbm, 88, rfl⟩
abbrev main_while0b_v56 : Ref sig .tc := ⟨.hbm, 89, rfl⟩
abbrev main_while0b_v57 : Ref sig .tc := ⟨.hbm, 90, rfl⟩
abbrev main_while0b_v58 : Ref sig .tc := ⟨.hbm, 91, rfl⟩
abbrev main_while0b_v59 : Ref sig .tc := ⟨.hbm, 92, rfl⟩
abbrev main_while0b_v60 : Ref sig .tc := ⟨.hbm, 93, rfl⟩
abbrev main_while0b_v61 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_call7_v0 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_call7_c_2 : Ref sig .tc := ⟨.hbm, 110, rfl⟩
abbrev main_while0b_v73 : Ref sig .tc := ⟨.hbm, 111, rfl⟩
abbrev main_while0b_c_13 : Ref sig .tc := ⟨.hbm, 112, rfl⟩
abbrev main_while0b_v74 : Ref sig .tc := ⟨.hbm, 113, rfl⟩
abbrev main_v14 : Ref sig .tc := ⟨.hbm, 114, rfl⟩
abbrev main_v15 : Ref sig .tc := ⟨.hbm, 115, rfl⟩
abbrev main_v16 : Ref sig .tc := ⟨.hbm, 116, rfl⟩
abbrev main_cst_1 : Ref sig .tc := ⟨.hbm, 117, rfl⟩
abbrev main_v17 : Ref sig .tc := ⟨.hbm, 118, rfl⟩
abbrev main_v18 : Ref sig .tc := ⟨.hbm, 119, rfl⟩
abbrev main_cst_2 : Ref sig .tc := ⟨.hbm, 120, rfl⟩
abbrev main_v19 : Ref sig .tc := ⟨.hbm, 121, rfl⟩
abbrev main_v20 : Ref sig .tc := ⟨.hbm, 122, rfl⟩
abbrev main_cst_3 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩

abbrev nD : Nat := 1
abbrev τ : Topo := Topo.v7x

variable {F : FTy → Type} [FloatOps F]

abbrev main_while0_count : Scf.Loop 32 := ⟨0#32, 64#32, 1#32⟩
-- ==== Tail.lean ====
abbrev S16x4096x1024 : Shape := ⟨3, ![16, 4096, 1024]⟩
abbrev S1024 : Shape := ⟨1, ![1024]⟩
abbrev S16x4096x512 : Shape := ⟨3, ![16, 4096, 512]⟩
abbrev S65536x1024 : Shape := ⟨2, ![65536, 1024]⟩
abbrev S1x16x4096x256 : Shape := ⟨4, ![1, 16, 4096, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S65536x512 : Shape := ⟨2, ![65536, 512]⟩
abbrev S16x4096x256 : Shape := ⟨3, ![16, 4096, 256]⟩
abbrev S65536x256 : Shape := ⟨2, ![65536, 256]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S512x512 : Shape := ⟨2, ![512, 512]⟩
abbrev S512x256 : Shape := ⟨2, ![512, 256]⟩
abbrev S256 : Shape := ⟨1, ![256]⟩
abbrev S256x1 : Shape := ⟨2, ![256, 1]⟩
abbrev S256x512 : Shape := ⟨2, ![256, 512]⟩
abbrev S256x256 : Shape := ⟨2, ![256, 256]⟩

abbrev nBuf : Space → Nat
  | .hbm => 49
  | .vmem => 27
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S16x4096x512, .bf16⟩
  | .hbm, ⟨4, _⟩ => ⟨S16x4096x512, .bf16⟩
  | .hbm, ⟨5, _⟩ => ⟨S65536x1024, .bf16⟩
  | .hbm, ⟨6, _⟩ => ⟨S65536x1024, .bf16⟩
  | .hbm, ⟨7, _⟩ => ⟨S1x16x4096x256, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024, .f32⟩
  | .hbm, ⟨13, _⟩ => ⟨S1x1024x4096, .f32⟩
  | .hbm, ⟨14, _⟩ => ⟨S1x4096x1024, .f32⟩
  | .hbm, ⟨15, _⟩ => ⟨S1x1024x1024, .f32⟩
  | .hbm, ⟨16, _⟩ => ⟨S1x256x1024, .f32⟩
  | .hbm, ⟨17, _⟩ => ⟨S1x1024, .f32⟩
  | .hbm, ⟨18, _⟩ => ⟨S1x1024, .f32⟩
  | .hbm, ⟨19, _⟩ => ⟨S65536x1024, .f32⟩
  | .hbm, ⟨20, _⟩ => ⟨S1x1024, .f32⟩
  | .hbm, ⟨21, _⟩ => ⟨S1x1024, .f32⟩
  | .hbm, ⟨22, _⟩ => ⟨S65536x512, .bf16⟩
  | .hbm, ⟨23, _⟩ => ⟨S65536x512, .bf16⟩
  | .hbm, ⟨24, _⟩ => ⟨S16x4096x256, .f32⟩
  | .hbm, ⟨25, _⟩ => ⟨S65536x256, .f32⟩
  | .hbm, ⟨26, _⟩ => ⟨S512x1024, .f32⟩
  | .hbm, ⟨27, _⟩ => ⟨S512x1024, .bf16⟩
  | .hbm, ⟨28, _⟩ => ⟨S512x1024, .f32⟩
  | .hbm, ⟨29, _⟩ => ⟨S512x1024, .bf16⟩
  | .hbm, ⟨30, _⟩ => ⟨S1024x1024, .f32⟩
  | .hbm, ⟨31, _⟩ => ⟨S1024x1024, .bf16⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1024x4096, .f32⟩
  | .hbm, ⟨37, _⟩ => ⟨S1024x4096, .bf16⟩
  | .hbm, ⟨38, _⟩ => ⟨S4096x1024, .f32⟩
  | .hbm, ⟨39, _⟩ => ⟨S4096x1024, .bf16⟩
  | .hbm, ⟨40, _⟩ => ⟨S1024x1024, .f32⟩
  | .hbm, ⟨41, _⟩ => ⟨S1024x1024, .bf16⟩
  | .hbm, ⟨42, _⟩ => ⟨S256x1024, .f32⟩
  | .hbm, ⟨43, _⟩ => ⟨S256x1024, .bf16⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x256, .f32⟩
  | .local _ .vmem, ⟨13, _⟩ => ⟨S512x256, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1024x4096, .bf16⟩
  | .local _ .vmem, ⟨20, _⟩ => ⟨S4096x1024, .bf16⟩
  | .local _ .vmem, ⟨21, _⟩ => ⟨S1024x1024, .bf16⟩
  | .local _ .vmem, ⟨22, _⟩ => ⟨S256x1024, .bf16⟩
  | .local _ .vmem, ⟨23, _⟩ => ⟨S1x1024, .f32⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== TailRefIdeal.lean ====
abbrev S16x4096x1024 : Shape := ⟨3, ![16, 4096, 1024]⟩
abbrev S1024 : Shape := ⟨1, ![1024]⟩
abbrev S16x4096x512 : Shape := ⟨3, ![16, 4096, 512]⟩
abbrev S65536x1024 : Shape := ⟨2, ![65536, 1024]⟩
abbrev S1x16x4096x256 : Shape := ⟨4, ![1, 16, 4096, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S65536x512 : Shape := ⟨2, ![65536, 512]⟩
abbrev S65536x256 : Shape := ⟨2, ![65536, 256]⟩
abbrev S_ : Shape := ⟨0, ![]⟩
abbrev S65536 : Shape := ⟨1, ![65536]⟩
abbrev S65536x1 : Shape := ⟨2, ![65536, 1]⟩
abbrev S512x1024 : Shape := ⟨2, ![512, 1024]⟩
abbrev S1024x1024 : Shape := ⟨2, ![1024, 1024]⟩
abbrev S1024x4096 : Shape := ⟨2, ![1024, 4096]⟩
abbrev S65536x4096 : Shape := ⟨2, ![65536, 4096]⟩
abbrev S4096x1024 : Shape := ⟨2, ![4096, 1024]⟩
abbrev S256x1024 : Shape := ⟨2, ![256, 1024]⟩

abbrev nBuf : Space → Nat
  | .hbm => 157
  | .vmem => 0
  | .smem => 0
  | _ => 0

abbrev hbmTy0_0 (i : Nat) : BufTy := match i % 128 with
  | 0 => ⟨S16x4096x1024, .f32⟩
  | 1 => ⟨S1024, .f32⟩
  | 2 => ⟨S1024, .f32⟩
  | 3 => ⟨S16x4096x512, .bf16⟩
  | 4 => ⟨S16x4096x512, .bf16⟩
  | 5 => ⟨S65536x1024, .bf16⟩
  | 6 => ⟨S65536x1024, .bf16⟩
  | 7 => ⟨S1x16x4096x256, .f32⟩
  | 8 => ⟨S1x512x1024, .f32⟩
  | 9 => ⟨S1x512x1024, .f32⟩
  | 10 => ⟨S1x1024x1024, .f32⟩
  | 11 => ⟨S1x1024, .f32⟩
  | 12 => ⟨S1x1024, .f32⟩
  | 13 => ⟨S1x1024x4096, .f32⟩
  | 14 => ⟨S1x4096x1024, .f32⟩
  | 15 => ⟨S1x1024x1024, .f32⟩
  | 16 => ⟨S1x256x1024, .f32⟩
  | 17 => ⟨S1x1024, .f32⟩
  | 18 => ⟨S1x1024, .f32⟩
  | 19 => ⟨S65536x1024, .f32⟩
  | 20 => ⟨S16x4096x512, .f32⟩
  | 21 => ⟨S65536x512, .f32⟩
  | 22 => ⟨S16x4096x512, .f32⟩
  | 23 => ⟨S65536x512, .f32⟩
  | 24 => ⟨S65536x256, .f32⟩
  | 25 => ⟨S_, .f32⟩
  | 26 => ⟨S65536, .f32⟩
  | 27 => ⟨S65536x1, .f32⟩
  | 28 => ⟨S_, .f32⟩
  | 29 => ⟨S65536x1, .f32⟩
  | 30 => ⟨S65536x1, .f32⟩
  | 31 => ⟨S65536x1024, .f32⟩
  | 32 => ⟨S65536x1024, .f32⟩
  | 33 => ⟨S65536x1024, .f32⟩
  | 34 => ⟨S_, .f32⟩
  | 35 => ⟨S65536, .f32⟩
  | 36 => ⟨S65536x1, .f32⟩
  | 37 => ⟨S_, .f32⟩
  | 38 => ⟨S65536x1, .f32⟩
  | 39 => ⟨S65536x1, .f32⟩
  | 40 => ⟨S65536x1024, .f32⟩
  | 41 => ⟨S65536x1024, .f32⟩
  | 42 => ⟨S_, .f32⟩
  | 43 => ⟨S65536x1, .f32⟩
  | 44 => ⟨S65536x1, .f32⟩
  | 45 => ⟨S65536x1, .f32⟩
  | 46 => ⟨S65536x1024, .f32⟩
  | 47 => ⟨S65536x1024, .f32⟩
  | 48 => ⟨S1x1024, .f32⟩
  | 49 => ⟨S65536x1024, .f32⟩
  | 50 => ⟨S65536x1024, .f32⟩
  | 51 => ⟨S1x1024, .f32⟩
  | 52 => ⟨S65536x1024, .f32⟩
  | 53 => ⟨S65536x1024, .f32⟩
  | 54 => ⟨S65536x1024, .f32⟩
  | 55 => ⟨S512x1024, .f32⟩
  | 56 => ⟨S65536x1024, .f32⟩
  | 57 => ⟨S65536x1024, .f32⟩
  | 58 => ⟨S65536x1024, .f32⟩
  | 59 => ⟨S512x1024, .f32⟩
  | 60 => ⟨S65536x1024, .f32⟩
  | 61 => ⟨S65536x1024, .f32⟩
  | 62 => ⟨S65536x1024, .f32⟩
  | 63 => ⟨S1024x1024, .f32⟩
  | 64 => ⟨S65536x1024, .f32⟩
  | 65 => ⟨S_, .f32⟩
  | 66 => ⟨S65536x1024, .f32⟩
  | 67 => ⟨S65536x1024, .f32⟩
  | 68 => ⟨S65536x1024, .f32⟩
  | 69 => ⟨S1024, .f32⟩
  | 70 => ⟨S1024, .f32⟩
  | 71 => ⟨S_, .f32⟩
  | 72 => ⟨S65536, .f32⟩
  | 73 => ⟨S65536x1, .f32⟩
  | 74 => ⟨S_, .f32⟩
  | 75 => ⟨S65536x1, .f32⟩
  | 76 => ⟨S65536x1, .f32⟩
  | 77 => ⟨S65536x1024, .f32⟩
  | 78 => ⟨S65536x1024, .f32⟩
  | 79 => ⟨S65536x1024, .f32⟩
  | 80 => ⟨S_, .f32⟩
  | 81 => ⟨S65536, .f32⟩
  | 82 => ⟨S65536x1, .f32⟩
  | 83 => ⟨S_, .f32⟩
  | 84 => ⟨S65536x1, .f32⟩
  | 85 => ⟨S65536x1, .f32⟩
  | 86 => ⟨S65536x1024, .f32⟩
  | 87 => ⟨S65536x1024, .f32⟩
  | 88 => ⟨S_, .f32⟩
  | 89 => ⟨S65536x1, .f32⟩
  | 90 => ⟨S65536x1, .f32⟩
  | 91 => ⟨S65536x1, .f32⟩
  | 92 => ⟨S65536x1024, .f32⟩
  | 93 => ⟨S65536x1024, .f32⟩
  | 94 => ⟨S1x1024, .f32⟩
  | 95 => ⟨S65536x1024, .f32⟩
  | 96 => ⟨S65536x1024, .f32⟩
  | 97 => ⟨S1x1024, .f32⟩
  | 98 => ⟨S65536x1024, .f32⟩
  | 99 => ⟨S65536x1024, .f32⟩
  | 100 => ⟨S1024x4096, .f32⟩
  | 101 => ⟨S65536x4096, .f32⟩
  | 102 => ⟨S_, .f32⟩
  | 103 => ⟨S65536x4096, .f32⟩
  | 104 => ⟨S65536x4096, .f32⟩
  | 105 => ⟨S65536x4096, .f32⟩
  | 106 => ⟨S4096x1024, .f32⟩
  | 107 => ⟨S65536x1024, .f32⟩
  | 108 => ⟨S1024x1024, .f32⟩
  | 109 => ⟨S65536x1024, .f32⟩
  | 110 => ⟨S65536x1024, .f32⟩
  | 111 => ⟨S65536x1024, .f32⟩
  | 112 => ⟨S_, .f32⟩
  | 113 => ⟨S65536x1024, .f32⟩
  | 114 => ⟨S65536x1024, .f32⟩
  | 115 => ⟨S_, .f32⟩
  | 116 => ⟨S65536x1024, .f32⟩
  | 117 => ⟨S65536x1024, .f32⟩
  | 118 => ⟨S256x1024, .f32⟩
  | 119 => ⟨S65536x1024, .f32⟩
  | 120 => ⟨S65536x1024, .f32⟩
  | 121 => ⟨S_, .f32⟩
  | 122 => ⟨S65536x1024, .f32⟩
  | 123 => ⟨S65536x1024, .f32⟩
  | 124 => ⟨S65536x1024, .f32⟩
  | 125 => ⟨S65536x1024, .f32⟩
  | 126 => ⟨S1024, .f32⟩
  | 127 => ⟨S1024, .f32⟩
  | _ => ⟨S16x4096x1024, .f32⟩

abbrev hbmTy0_1 (i : Nat) : BufTy := match i % 128 with
  | 0 => ⟨S_, .f32⟩
  | 1 => ⟨S65536, .f32⟩
  | 2 => ⟨S65536x1, .f32⟩
  | 3 => ⟨S_, .f32⟩
  | 4 => ⟨S65536x1, .f32⟩
  | 5 => ⟨S65536x1, .f32⟩
  | 6 => ⟨S65536x1024, .f32⟩
  | 7 => ⟨S65536x1024, .f32⟩
  | 8 => ⟨S65536x1024, .f32⟩
  | 9 => ⟨S_, .f32⟩
  | 10 => ⟨S65536, .f32⟩
  | 11 => ⟨S65536x1, .f32⟩
  | 12 => ⟨S_, .f32⟩
  | 13 => ⟨S65536x1, .f32⟩
  | 14 => ⟨S65536x1, .f32⟩
  | 15 => ⟨S65536x1024, .f32⟩
  | 16 => ⟨S65536x1024, .f32⟩
  | 17 => ⟨S_, .f32⟩
  | 18 => ⟨S65536x1, .f32⟩
  | 19 => ⟨S65536x1, .f32⟩
  | 20 => ⟨S65536x1, .f32⟩
  | 21 => ⟨S65536x1024, .f32⟩
  | 22 => ⟨S65536x1024, .f32⟩
  | 23 => ⟨S1x1024, .f32⟩
  | 24 => ⟨S65536x1024, .f32⟩
  | 25 => ⟨S65536x1024, .f32⟩
  | 26 => ⟨S1x1024, .f32⟩
  | 27 => ⟨S65536x1024, .f32⟩
  | 28 => ⟨S65536x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call0_cst : Ref sig .tc := ⟨.hbm, 102, rfl⟩
abbrev main_call0_v0 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_10 : Ref sig .tc := ⟨.hbm, 112, rfl⟩
abbrev main_v80 : Ref sig .tc := ⟨.hbm, 113, rfl⟩
abbrev main_v81 : Ref sig .tc := ⟨.hbm, 114, rfl⟩
abbrev main_cst_11 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_12 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_13 : Ref sig .tc := ⟨.hbm, 128, rfl⟩
abbrev main_v93 : Ref sig .tc := ⟨.hbm, 129, rfl⟩
abbrev main_v94 : Ref sig .tc := ⟨.hbm, 130, rfl⟩
abbrev main_cst_14 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_15 : Ref sig .tc := ⟨.hbm, 137, rfl⟩
abbrev main_v100 : Ref sig .tc := ⟨.hbm, 138, rfl⟩
abbrev main_v101 : Ref sig .tc := ⟨.hbm, 139, rfl⟩
abbrev main_cst_16 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_17 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩

abbrev nD : Nat := 1
abbrev τ : Topo := Topo.v7x

variable {F : FTy → Type} [FloatOps F]
-- ==== Inproj.lean ====
abbrev S16x4096x1024 : Shape := ⟨3, ![16, 4096, 1024]⟩
abbrev S1024 : Shape := ⟨1, ![1024]⟩
abbrev S1x1024x5640 : Shape := ⟨3, ![1, 1024, 5640]⟩
abbrev S2x512 : Shape := ⟨2, ![2, 512]⟩
abbrev S1x8 : Shape := ⟨2, ![1, 8]⟩
abbrev S1024x5640 : Shape := ⟨2, ![1024, 5640]⟩
abbrev S1024x512 : Shape := ⟨2, ![1024, 512]⟩
abbrev S1024x8 : Shape := ⟨2, ![1024, 8]⟩
abbrev S1024x1024 : Shape := ⟨2, ![1024, 1024]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S512x1024 : Shape := ⟨2, ![512, 1024]⟩
abbrev S65536x1024 : Shape := ⟨2, ![65536, 1024]⟩
abbrev S1x1024 : Shape := ⟨2, ![1, 1024]⟩
abbrev S65536x512 : Shape := ⟨2, ![65536, 512]⟩
abbrev S512x65536 : Shape := ⟨2, ![512, 65536]⟩
abbrev S65536x128 : Shape := ⟨2, ![65536, 128]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S512x128 : Shape := ⟨2, ![512, 128]⟩

abbrev nBuf : Space → Nat
  | .hbm => 51
  | .vmem => 38
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S1x1024x5640, .f32⟩
  | .hbm, ⟨4, _⟩ => ⟨S2x512, .f32⟩
  | .hbm, ⟨5, _⟩ => ⟨S1x8, .f32⟩
  | .hbm, ⟨6, _⟩ => ⟨S1024x5640, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x8, .f32⟩
  | .hbm, ⟨15, _⟩ => ⟨S1024x1024, .f32⟩
  | .hbm, ⟨16, _⟩ => ⟨S1024x1024, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S8, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S512x1024, .f32⟩
  | .hbm, ⟨26, _⟩ => ⟨S512x1024, .f32⟩
  | .hbm, ⟨27, _⟩ => ⟨S1024x512, .bf16⟩
  | .hbm, ⟨28, _⟩ => ⟨S1024x512, .bf16⟩
  | .hbm, ⟨29, _⟩ => ⟨S1024x512, .bf16⟩
  | .hbm, ⟨30, _⟩ => ⟨S1024x512, .bf16⟩
  | .hbm, ⟨31, _⟩ => ⟨S512x1024, .bf16⟩
  | .hbm, ⟨32, _⟩ => ⟨S1024x512, .bf16⟩
  | .hbm, ⟨33, _⟩ => ⟨S512x1024, .bf16⟩
  | .hbm, ⟨34, _⟩ => ⟨S1024x128, .bf16⟩
  | .hbm, ⟨35, _⟩ => ⟨S1024x1024, .bf16⟩
  | .hbm, ⟨36, _⟩ => ⟨S1024x1024, .bf16⟩
  | .hbm, ⟨37, _⟩ => ⟨S65536x1024, .f32⟩
  | .hbm, ⟨38, _⟩ => ⟨S1x1024, .f32⟩
  | .hbm, ⟨39, _⟩ => ⟨S1x1024, .f32⟩
  | .hbm, ⟨40, _⟩ => ⟨S65536x512, .bf16⟩
  | .hbm, ⟨41, _⟩ => ⟨S65536x512, .f32⟩
  | .hbm, ⟨42, _⟩ => ⟨S65536x512, .bf16⟩
  | .hbm, ⟨43, _⟩ => ⟨S65536x512, .bf16⟩
  | .hbm, ⟨44, _⟩ => ⟨S65536x512, .bf16⟩
  | .hbm, ⟨45, _⟩ => ⟨S512x65536, .bf16⟩
  | .hbm, ⟨46, _⟩ => ⟨S65536x512, .bf16⟩
  | .hbm, ⟨47, _⟩ => ⟨S512x65536, .bf16⟩
  | .hbm, ⟨48, _⟩ => ⟨S65536x128, .f32⟩
  | .hbm, ⟨49, _⟩ => ⟨S65536x1024, .bf16⟩
  | .hbm, ⟨50, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S2x512, .f32⟩
  | .local _ .vmem, ⟨5, _⟩ => ⟨S1x128, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S1024x512, .bf16⟩
  | .local _ .vmem, ⟨12, _⟩ => ⟨S512x1024, .bf16⟩
  | .local _ .vmem, ⟨13, _⟩ => ⟨S1024x128, .bf16⟩
  | .local _ .vmem, ⟨14, _⟩ => ⟨S1024x1024, .bf16⟩
  | .local _ .vmem, ⟨15, _⟩ => ⟨S1024x1024, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .f32⟩
  | .local _ .vmem, ⟨19, _⟩ => ⟨S1024x512, .f32⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S512x1024, .bf16⟩
  | .local _ .vmem, ⟨27, _⟩ => ⟨S512x1024, .bf16⟩
  | .local _ .vmem, ⟨28, _⟩ => ⟨S1024x512, .bf16⟩
  | .local _ .vmem, ⟨29, _⟩ => ⟨S1024x512, .bf16⟩
  | .local _ .vmem, ⟨30, _⟩ => ⟨S512x1024, .bf16⟩
  | .local _ .vmem, ⟨31, _⟩ => ⟨S512x1024, .bf16⟩
  | .local _ .vmem, ⟨32, _⟩ => ⟨S1024x128, .f32⟩
  | .local _ .vmem, ⟨33, _⟩ => ⟨S1024x128, .f32⟩
  | .local _ .vmem, ⟨34, _⟩ => ⟨S1024x1024, .bf16⟩
  | .local _ .vmem, ⟨35, _⟩ => ⟨S1024x1024, .bf16⟩
  | .local _ .vmem, ⟨36, _⟩ => ⟨S1024x1024, .bf16⟩
  | .local _ .vmem, ⟨37, _⟩ => ⟨S1024x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev main_v30_3 : Ref sig .tc := ⟨.hbm, 43, rfl⟩
abbrev main_v30_4 : Ref sig .tc := ⟨.hbm, 44, rfl⟩
abbrev main_v30_5 : Ref sig .tc := ⟨.hbm, 45, rfl⟩
abbrev main_v30_6 : Ref sig .tc := ⟨.hbm, 46, rfl⟩
abbrev main_v30_7 : Ref sig .tc := ⟨.hbm, 47, rfl⟩
abbrev main_v30_8 : Ref sig .tc := ⟨.hbm, 48, rfl⟩
abbrev main_v30_9 : Ref sig .tc := ⟨.hbm, 49, rfl⟩
abbrev main_v30_10 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1024x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1024x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1024x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== InprojRefIdeal.lean ====
abbrev S16x4096x1024 : Shape := ⟨3, ![16, 4096, 1024]⟩
abbrev S1024 : Shape := ⟨1, ![1024]⟩
abbrev S1x1024x5640 : Shape := ⟨3, ![1, 1024, 5640]⟩
abbrev S2x512 : Shape := ⟨2, ![2, 512]⟩
abbrev S1x8 : Shape := ⟨2, ![1, 8]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1024x5640 : Shape := ⟨2, ![1024, 5640]⟩
abbrev S65536x5640 : Shape := ⟨2, ![65536, 5640]⟩
abbrev S65536x512 : Shape := ⟨2, ![65536, 512]⟩
abbrev S65536x8 : Shape := ⟨2, ![65536, 8]⟩
abbrev S512 : Shape := ⟨1, ![512]⟩
abbrev S1x512 : Shape := ⟨2, ![1, 512]⟩
abbrev S8 : Shape := ⟨1, ![8]⟩
abbrev S65536x128 : Shape := ⟨2, ![65536, 128]⟩
abbrev S512x65536 : Shape := ⟨2, ![512, 65536]⟩

abbrev nBuf : Space → Nat
  | .hbm => 159
  | .vmem => 0
  | .smem => 0
  | _ => 0

abbrev hbmTy0_0 (i : Nat) : BufTy := match i % 128 with
  | 0 => ⟨S16x4096x1024, .f32⟩
  | 1 => ⟨S1024, .f32⟩
  | 2 => ⟨S1024, .f32⟩
  | 3 => ⟨S1x1024x5640, .f32⟩
  | 4 => ⟨S2x512, .f32⟩
  | 5 => ⟨S1x8, .f32⟩
  | 6 => ⟨S65536x1024, .f32⟩
  | 7 => ⟨S_, .f32⟩
  | 8 => ⟨S65536, .f32⟩
  | 9 => ⟨S65536x1, .f32⟩
  | 10 => ⟨S_, .f32⟩
  | 11 => ⟨S65536x1, .f32⟩
  | 12 => ⟨S65536x1, .f32⟩
  | 13 => ⟨S65536x1024, .f32⟩
  | 14 => ⟨S65536x1024, .f32⟩
  | 15 => ⟨S65536x1024, .f32⟩
  | 16 => ⟨S_, .f32⟩
  | 17 => ⟨S65536, .f32⟩
  | 18 => ⟨S65536x1, .f32⟩
  | 19 => ⟨S_, .f32⟩
  | 20 => ⟨S65536x1, .f32⟩
  | 21 => ⟨S65536x1, .f32⟩
  | 22 => ⟨S65536x1024, .f32⟩
  | 23 => ⟨S65536x1024, .f32⟩
  | 24 => ⟨S_, .f32⟩
  | 25 => ⟨S65536x1, .f32⟩
  | 26 => ⟨S65536x1, .f32⟩
  | 27 => ⟨S65536x1, .f32⟩
  | 28 => ⟨S65536x1024, .f32⟩
  | 29 => ⟨S65536x1024, .f32⟩
  | 30 => ⟨S1x1024, .f32⟩
  | 31 => ⟨S65536x1024, .f32⟩
  | 32 => ⟨S65536x1024, .f32⟩
  | 33 => ⟨S1x1024, .f32⟩
  | 34 => ⟨S65536x1024, .f32⟩
  | 35 => ⟨S65536x1024, .f32⟩
  | 36 => ⟨S1024x5640, .f32⟩
  | 37 => ⟨S65536x5640, .f32⟩
  | 38 => ⟨S65536x512, .f32⟩
  | 39 => ⟨S65536x512, .f32⟩
  | 40 => ⟨S65536x512, .f32⟩
  | 41 => ⟨S65536x512, .f32⟩
  | 42 => ⟨S65536x512, .f32⟩
  | 43 => ⟨S65536x512, .f32⟩
  | 44 => ⟨S65536x512, .f32⟩
  | 45 => ⟨S65536x8, .f32⟩
  | 46 => ⟨S65536x1024, .f32⟩
  | 47 => ⟨S65536x1024, .f32⟩
  | 48 => ⟨S_, .f32⟩
  | 49 => ⟨S512, .f32⟩
  | 50 => ⟨S_, .f32⟩
  | 51 => ⟨S512, .f32⟩
  | 52 => ⟨S512, .f32⟩
  | 53 => ⟨S1x512, .f32⟩
  | 54 => ⟨S2x512, .f32⟩
  | 55 => ⟨S2x512, .f32⟩
  | 56 => ⟨S2x512, .f32⟩
  | 57 => ⟨S_, .f32⟩
  | 58 => ⟨S512, .f32⟩
  | 59 => ⟨S1x512, .f32⟩
  | 60 => ⟨S2x512, .f32⟩
  | 61 => ⟨S2x512, .f32⟩
  | 62 => ⟨S_, .f32⟩
  | 63 => ⟨S_, .f32⟩
  | 64 => ⟨S2x512, .f32⟩
  | 65 => ⟨S1x512, .f32⟩
  | 66 => ⟨S512, .f32⟩
  | 67 => ⟨S_, .f32⟩
  | 68 => ⟨S512, .f32⟩
  | 69 => ⟨S512, .f32⟩
  | 70 => ⟨S65536x512, .f32⟩
  | 71 => ⟨S65536x512, .f32⟩
  | 72 => ⟨S_, .f32⟩
  | 73 => ⟨S65536x512, .f32⟩
  | 74 => ⟨S65536x512, .f32⟩
  | 75 => ⟨S_, .f32⟩
  | 76 => ⟨S65536x512, .f32⟩
  | 77 => ⟨S65536x512, .f32⟩
  | 78 => ⟨S1x512, .f32⟩
  | 79 => ⟨S65536x512, .f32⟩
  | 80 => ⟨S65536x512, .f32⟩
  | 81 => ⟨S1x512, .f32⟩
  | 82 => ⟨S65536x512, .f32⟩
  | 83 => ⟨S65536x512, .f32⟩
  | 84 => ⟨S8, .f32⟩
  | 85 => ⟨S1x8, .f32⟩
  | 86 => ⟨S65536x8, .f32⟩
  | 87 => ⟨S65536x8, .f32⟩
  | 88 => ⟨S_, .i32⟩
  | 89 => ⟨S_, .f32⟩
  | 90 => ⟨S65536x128, .f32⟩
  | 91 => ⟨S65536x128, .f32⟩
  | 92 => ⟨S_, .f32⟩
  | 93 => ⟨S65536x128, .f32⟩
  | 94 => ⟨S65536x128, .f32⟩
  | 95 => ⟨S65536x128, .f32⟩
  | 96 => ⟨S65536x128, .f32⟩
  | 97 => ⟨S65536x128, .i1⟩
  | 98 => ⟨S65536x128, .f32⟩
  | 99 => ⟨S65536x128, .f32⟩
  | 100 => ⟨S65536x128, .f32⟩
  | 101 => ⟨S65536x128, .f32⟩
  | 102 => ⟨S65536x128, .f32⟩
  | 103 => ⟨S65536x128, .f32⟩
  | 104 => ⟨S65536x128, .f32⟩
  | 105 => ⟨S65536x128, .f32⟩
  | 106 => ⟨S65536x128, .f32⟩
  | 107 => ⟨S65536x512, .f32⟩
  | 108 => ⟨S65536x512, .f32⟩
  | 109 => ⟨S_, .f32⟩
  | 110 => ⟨S65536x512, .f32⟩
  | 111 => ⟨S65536x512, .f32⟩
  | 112 => ⟨S_, .f32⟩
  | 113 => ⟨S65536x512, .f32⟩
  | 114 => ⟨S65536x512, .f32⟩
  | 115 => ⟨S65536x512, .f32⟩
  | 116 => ⟨S65536x512, .bf16⟩
  | 117 => ⟨S65536x512, .f32⟩
  | 118 => ⟨S_, .f32⟩
  | 119 => ⟨S65536x512, .f32⟩
  | 120 => ⟨S65536x512, .f32⟩
  | 121 => ⟨S65536x512, .bf16⟩
  | 122 => ⟨S65536x512, .bf16⟩
  | 123 => ⟨S65536x512, .f32⟩
  | 124 => ⟨S65536x512, .f32⟩
  | 125 => ⟨S_, .f32⟩
  | 126 => ⟨S65536x512, .f32⟩
  | 127 => ⟨S65536x512, .f32⟩
  | _ => ⟨S16x4096x1024, .f32⟩

abbrev hbmTy0_1 (i : Nat) : BufTy := match i % 128 with
  | 0 => ⟨S_, .f32⟩
  | 1 => ⟨S65536x512, .f32⟩
  | 2 => ⟨S65536x512, .f32⟩
  | 3 => ⟨S65536x512, .f32⟩
  | 4 => ⟨S65536x512, .bf16⟩
  | 5 => ⟨S_, .f32⟩
  | 6 => ⟨S65536x512, .f32⟩
  | 7 => ⟨S65536x512, .f32⟩
  | 8 => ⟨S512x65536, .f32⟩
  | 9 => ⟨S512x65536, .bf16⟩
  | 10 => ⟨S65536x512, .bf16⟩
  | 11 => ⟨S512x65536, .f32⟩
  | 12 => ⟨S512x65536, .bf16⟩
  | 13 => ⟨S65536x1024, .f32⟩
  | 14 => ⟨S65536x1024, .f32⟩
  | 15 => ⟨S_, .f32⟩
  | 16 => ⟨S65536x1024, .f32⟩
  | 17 => ⟨S65536x1024, .f32⟩
  | 18 => ⟨S_, .f32⟩
  | 19 => ⟨S65536x1024, .f32⟩
  | 20 => ⟨S65536x1024, .f32⟩
  | 21 => ⟨S65536x1024, .bf16⟩
  | 22 => ⟨S65536x1024, .f32⟩
  | 23 => ⟨S65536x1024, .f32⟩
  | 24 => ⟨S_, .f32⟩
  | 25 => ⟨S65536x1024, .f32⟩
  | 26 => ⟨S65536x1024, .f32⟩
  | 27 => ⟨S_, .f32⟩
  | 28 => ⟨S65536x1024, .f32⟩
  | 29 => ⟨S65536x1024, .f32⟩
  | 30 => ⟨S65536x1024, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_call0_cst : Ref sig .tc := ⟨.hbm, 62, rfl⟩
abbrev main_call0_call0_v0 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c : Ref sig .tc := ⟨.hbm, 88, rfl⟩
abbrev main_call1_v0 : Ref sig .tc := ⟨.hbm, 89, rfl⟩
abbrev main_v69 : Ref sig .tc := ⟨.hbm, 90, rfl⟩
abbrev main_call2_v0 : Ref sig .tc := ⟨.hbm, 91, rfl⟩
abbrev main_call2_call0_cst : Ref sig .tc := ⟨.hbm, 92, rfl⟩
abbrev main_call2_call0_v0 : Ref sig .tc := ⟨.hbm, 93, rfl⟩
abbrev main_call2_call0_v1 : Ref sig .tc := ⟨.hbm, 94, rfl⟩
abbrev main_call2_call0_v2 : Ref sig .tc := ⟨.hbm, 95, rfl⟩
abbrev main_call2_call0_v3 : Ref sig .tc := ⟨.hbm, 96, rfl⟩
abbrev main_call2_call0_v4 : Ref sig .tc := ⟨.hbm, 97, rfl⟩
abbrev main_call2_call0_v5 : Ref sig .tc := ⟨.hbm, 98, rfl⟩
abbrev main_call2_call0_v6 : Ref sig .tc := ⟨.hbm, 99, rfl⟩
abbrev main_call2_call0_v7 : Ref sig .tc := ⟨.hbm, 100, rfl⟩
abbrev main_call2_call0_v8 : Ref sig .tc := ⟨.hbm, 101, rfl⟩
abbrev main_call2_call0_v9 : Ref sig .tc := ⟨.hbm, 102, rfl⟩
abbrev main_call2_call0_v10 : Ref sig .tc := ⟨.hbm, 103, rfl⟩
abbrev main_call2_call0_v11 : Ref sig .tc := ⟨.hbm, 104, rfl⟩
abbrev main_call2_v1 : Ref sig .tc := ⟨.hbm, 105, rfl⟩
abbrev main_v70 : Ref sig .tc := ⟨.hbm, 106, rfl⟩
abbrev main_call3_v0 : Ref sig .tc := ⟨.hbm, 107, rfl⟩
abbrev main_call3_v1 : Ref sig .tc := ⟨.hbm, 108, rfl⟩
abbrev main_call3_cst : Ref sig .tc := ⟨.hbm, 109, rfl⟩
abbrev main_call3_v2 : Ref sig .tc := ⟨.hbm, 110, rfl⟩
abbrev main_call3_v3 : Ref sig .tc := ⟨.hbm, 111, rfl⟩
abbrev main_call3_cst_0 : Ref sig .tc := ⟨.hbm, 112, rfl⟩
abbrev main_call3_v4 : Ref sig .tc := ⟨.hbm, 113, rfl⟩
abbrev main_call3_v5 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_10 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_call4_v0 : Ref sig .tc := ⟨.hbm, 123, rfl⟩
abbrev main_call4_v1 : Ref sig .tc := ⟨.hbm, 124, rfl⟩
abbrev main_call4_cst : Ref sig .tc := ⟨.hbm, 125, rfl⟩
abbrev main_call4_v2 : Ref sig .tc := ⟨.hbm, 126, rfl⟩
abbrev main_call4_v3 : Ref sig .tc := ⟨.hbm, 127, rfl⟩
abbrev main_call4_cst_0 : Ref sig .tc := ⟨.hbm, 128, rfl⟩
abbrev main_call4_v4 : Ref sig .tc := ⟨.hbm, 129, rfl⟩
abbrev main_call4_v5 : Ref sig .tc := ⟨.hbm, 130, rfl⟩
abbrev main_v78 : Ref sig .tc := ⟨.hbm, 131, rfl⟩
abbrev main_v79 : Ref sig .tc := ⟨.hbm, 132, rfl⟩
abbrev main_cst_11 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_12 : Ref sig .tc := ⟨.hbm, 143, rfl⟩
abbrev main_v89 : Ref sig .tc := ⟨.hbm, 144, rfl⟩
abbrev main_v90 : Ref sig .tc := ⟨.hbm, 145, rfl⟩
abbrev main_cst_13 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_14 : Ref sig .tc := ⟨.hbm, 152, rfl⟩
abbrev main_v96 : Ref sig .tc := ⟨.hbm, 153, rfl⟩
abbrev main_v97 : Ref sig .tc := ⟨.hbm, 154, rfl⟩
abbrev main_cst_15 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩

abbrev nD : Nat := 1
abbrev τ : Topo := Topo.v7x

variable {F : FTy → Type} [FloatOps F]
-- ==== Proof.Hgrn.Cumsum.lean ====
module

public import proofs.«01_k».proof.Proof.Gen.ReferenceIdeal.Step
public import Idealize.ShloMosaic.Lib.Pointwise
public import Idealize.ShloMosaic.Lib.Pipeline.ValueKit

@[expose] public section

set_option maxRecDepth 16384

noncomputable section

/-! The running sum along a chunk: the sum over a window of 64 padded by 63 below is the sum of the terms up to the token. -/

namespace Cert.Hgrn

open Cert.ReferenceIdeal Cert.ReferenceIdeal.Gen Idealize.ShloMosaic

/-- The sum of the first `t + 1` terms. -/
def upTo (g : Fin 64 → EReal) (t : Fin 64) : EReal := ∑ j : Fin 64, if j ≤ t then g j else 0

theorem foldl_sum {β : Type} (f : β → EReal) (l : List β) (v : EReal) :
    l.foldl (fun r n => r + f n) v = v + (l.map f).sum := by
  induction l generalizing v with
  | nil => simp
  | cons a l ih => rw [List.foldl_cons, ih, List.map_cons, List.sum_cons, add_assoc]

theorem sum_window (f : Shape.Idx (⟨4, ![1, 1, 64, 1]⟩ : Shape) → EReal) : ∑ i, f i = ∑ w : Fin 64, f (ix4 0 0 w 0) := by
  refine Finset.sum_bij' (fun i _ => i 2) (fun w _ => ix4 0 0 w 0) (fun _ _ => Finset.mem_univ _) (fun _ _ => Finset.mem_univ _) ?_ (fun _ _ => rfl) ?_
  · intro i _
    funext a
    fin_cases a <;> first | rfl | exact Subsingleton.elim (α := Fin 1) _ _
  · intro i _
    congr 1
    funext a
    fin_cases a <;> first | rfl | exact Subsingleton.elim (α := Fin 1) _ _

theorem sum_rows (F : Fin (Shape.numel (⟨4, ![1, 1, 64, 1]⟩ : Shape)) → EReal) (f : Shape.Idx (⟨4, ![1, 1, 64, 1]⟩ : Shape) → EReal)
    (hF : ∀ n, F n = f ((Shape.rowMajor (⟨4, ![1, 1, 64, 1]⟩ : Shape)).symm n)) : ∑ n, F n = ∑ w : Fin 64, f (ix4 0 0 w 0) := by
  rw [← sum_window, ← Equiv.sum_comp (Shape.rowMajor (⟨4, ![1, 1, 64, 1]⟩ : Shape)).symm f]
  exact Finset.sum_congr rfl fun n _ => hF n

theorem sum_shift (g : Fin 64 → EReal) (t : Fin 64) :
    ∑ w : Fin 64, (if h : 63 ≤ t.val + w.val then g ⟨t.val + w.val - 63, by omega⟩ else 0) = upTo g t := by
  unfold upTo
  rw [← Finset.sum_filter_add_sum_filter_not Finset.univ (fun w : Fin 64 => 63 ≤ t.val + w.val),
    ← Finset.sum_filter_add_sum_filter_not Finset.univ (fun j : Fin 64 => j ≤ t)]
  congr 1
  · refine Finset.sum_bij' (fun w hw => (⟨t.val + w.val - 63, by omega⟩ : Fin 64))
      (fun j hj => (⟨j.val + 63 - t.val, by have := (Finset.mem_filter.1 hj).2; have : j.val ≤ t.val := this; omega⟩ : Fin 64)) ?_ ?_ ?_ ?_ ?_
    · intro w hw
      simp only [Finset.mem_filter, Finset.mem_univ, true_and] at hw ⊢
      show t.val + w.val - 63 ≤ t.val
      omega
    · intro j hj
      simp only [Finset.mem_filter, Finset.mem_univ, true_and] at hj ⊢
      have : j.val ≤ t.val := hj
      omega
    · intro w hw
      simp only [Finset.mem_filter, Finset.mem_univ, true_and] at hw
      apply Fin.ext; show t.val + w.val - 63 + 63 - t.val = w.val; omega
    · intro j hj
      simp only [Finset.mem_filter, Finset.mem_univ, true_and] at hj
      have : j.val ≤ t.val := hj
      apply Fin.ext; show t.val + (j.val + 63 - t.val) - 63 = j.val; omega
    · intro w hw
      simp only [Finset.mem_filter, Finset.mem_univ, true_and] at hw
      have hle : (⟨t.val + w.val - 63, by omega⟩ : Fin 64) ≤ t := by show t.val + w.val - 63 ≤ t.val; omega
      rw [dif_pos hw, if_pos hle]
  · rw [Finset.sum_eq_zero, Finset.sum_eq_zero]
    · intro j hj
      simp only [Finset.mem_filter, Finset.mem_univ, true_and] at hj
      rw [if_neg hj]
    · intro w hw
      simp only [Finset.mem_filter, Finset.mem_univ, true_and] at hw
      rw [dif_neg hw]

theorem cumsum_apply (x : FVec Ideal S16x4x64x128 .f32) (v : FVec Ideal S_ .f32) (hv : v (Shape.Idx.first h_S_) = 0)
    (b : Fin 16) (h : Fin 4) (t : Fin 64) (d : Fin 128) :
    Host.reduceWindowAdd ![1, 1, 64, 1] ![1, 1, 1, 1] ![0, 0, 63, 0] ![0, 0, 0, 0] x v
      reduceWindows_S16x4x64x128_S16x4x64x128_w1s1p0_0_w1s1p0_0_w64s1p63_0_w1s1p0_0 h_S_ (ix4 b h t d)
      = upTo (fun j => x (ix4 b h j d)) t := by
  rw [← sum_shift]
  show Host.reduceWindow (fun a b : EReal => a + b) ![1, 1, 64, 1] ![1, 1, 1, 1] ![0, 0, 63, 0] ![0, 0, 0, 0] x v
      reduceWindows_S16x4x64x128_S16x4x64x128_w1s1p0_0_w1s1p0_0_w64s1p63_0_w1s1p0_0 h_S_ (ix4 b h t d) = _
  unfold Host.reduceWindow
  dsimp only
  rw [foldl_sum, hv, zero_add, ← Fin.sum_univ_def]
  refine (sum_rows _ (fun i => if hw : 63 ≤ t.val + (i 2).val then
    x (ix4 b h ⟨t.val + (i 2).val - 63, by have : (i 2).val < 64 := (i 2).isLt; omega⟩ d) else 0) ?_).trans rfl
  intro n
  obtain ⟨i, hi⟩ : ∃ i, (Shape.rowMajor (⟨4, ![1, 1, 64, 1]⟩ : Shape)).symm n = i := ⟨_, rfl⟩
  simp only [hi]
  have h0 : (i 0).val < 1 := (i 0).isLt
  have h1 : (i 1).val < 1 := (i 1).isLt
  have h2 : (i 2).val < 64 := (i 2).isLt
  have h3 : (i 3).val < 1 := (i 3).isLt
  by_cases hw : 63 ≤ t.val + (i 2).val
  · rw [dif_pos hw, dif_pos]
    · congr 1
      funext a
      fin_cases a <;> apply Fin.ext
      · show b.val * 1 + (i 0).val - 0 = b.val; omega
      · show h.val * 1 + (i 1).val - 0 = h.val; omega
      · show t.val * 1 + (i 2).val - 63 = t.val + (i 2).val - 63; omega
      · show d.val * 1 + (i 3).val - 0 = d.val; omega
    · intro a
      fin_cases a
      · show 0 ≤ b.val * 1 + (i 0).val ∧ b.val * 1 + (i 0).val - 0 < 16; omega
      · show 0 ≤ h.val * 1 + (i 1).val ∧ h.val * 1 + (i 1).val - 0 < 4; omega
      · show 63 ≤ t.val * 1 + (i 2).val ∧ t.val * 1 + (i 2).val - 63 < 64; omega
      · show 0 ≤ d.val * 1 + (i 3).val ∧ d.val * 1 + (i 3).val - 0 < 128; omega
  · rw [dif_neg hw, dif_neg]
    intro hc
    have h := (hc 2).1
    have : 63 ≤ t.val * 1 + (i 2).val := h
    omega

end Cert.Hgrn
-- ==== Proof.Hgrn.Head.lean ====
module

public import proofs.«01_k».proof.Proof.Gen.KernelIdeal.Value

@[expose] public section

set_option maxRecDepth 65536

noncomputable section

/-! One head of one grid point of `hgrn` as a program on vectors: what chunk `i` of 64 tokens stores, and the state it
    leaves, as functions of the head's tokens, its decay sums and the state it entered with. -/

namespace Cert.Hgrn

open Cert.KernelIdeal Cert.KernelIdeal.Gen Idealize.ShloMosaic Idealize.ShloMosaic.TcCoe

variable {F : FTy → Type} [FloatOps F]

theorem slice_lanes (i : Fin 16) : S64x2048.Slices ![0, 128 * i.val] S64x128 := by
  fin_cases i <;> decide
theorem slice_tokens (i : Fin 16) : S1024x128.Slices ![64 * i.val, 0] S64x128 := by
  fin_cases i <;> decide

/-- The 16 chunks of a head's tokens beside one another. -/
def lanes {α : Type} (x : S1x1024x128.Idx → α) : S64x2048.Idx → α :=
  concatenate S64x2048 1 [
    ⟨S64x128, extractStridedSlice S64x128 ![0, 0] (shapeCast S1024x128 x shapeCasts_S1x1024x128_S1024x128) slices_S1024x128_o0_0_S64x128⟩,
    ⟨S64x128, extractStridedSlice S64x128 ![64, 0] (shapeCast S1024x128 x shapeCasts_S1x1024x128_S1024x128) slices_S1024x128_o64_0_S64x128⟩,
    ⟨S64x128, extractStridedSlice S64x128 ![128, 0] (shapeCast S1024x128 x shapeCasts_S1x1024x128_S1024x128) slices_S1024x128_o128_0_S64x128⟩,
    ⟨S64x128, extractStridedSlice S64x128 ![192, 0] (shapeCast S1024x128 x shapeCasts_S1x1024x128_S1024x128) slices_S1024x128_o192_0_S64x128⟩,
    ⟨S64x128, extractStridedSlice S64x128 ![256, 0] (shapeCast S1024x128 x shapeCasts_S1x1024x128_S1024x128) slices_S1024x128_o256_0_S64x128⟩,
    ⟨S64x128, extractStridedSlice S64x128 ![320, 0] (shapeCast S1024x128 x shapeCasts_S1x1024x128_S1024x128) slices_S1024x128_o320_0_S64x128⟩,
    ⟨S64x128, extractStridedSlice S64x128 ![384, 0] (shapeCast S1024x128 x shapeCasts_S1x1024x128_S1024x128) slices_S1024x128_o384_0_S64x128⟩,
    ⟨S64x128, extractStridedSlice S64x128 ![448, 0] (shapeCast S1024x128 x shapeCasts_S1x1024x128_S1024x128) slices_S1024x128_o448_0_S64x128⟩,
    ⟨S64x128, extractStridedSlice S64x128 ![512, 0] (shapeCast S1024x128 x shapeCasts_S1x1024x128_S1024x128) slices_S1024x128_o512_0_S64x128⟩,
    ⟨S64x128, extractStridedSlice S64x128 ![576, 0] (shapeCast S1024x128 x shapeCasts_S1x1024x128_S1024x128) slices_S1024x128_o576_0_S64x128⟩,
    ⟨S64x128, extractStridedSlice S64x128 ![640, 0] (shapeCast S1024x128 x shapeCasts_S1x1024x128_S1024x128) slices_S1024x128_o640_0_S64x128⟩,
    ⟨S64x128, extractStridedSlice S64x128 ![704, 0] (shapeCast S1024x128 x shapeCasts_S1x1024x128_S1024x128) slices_S1024x128_o704_0_S64x128⟩,
    ⟨S64x128, extractStridedSlice S64x128 ![768, 0] (shapeCast S1024x128 x shapeCasts_S1x1024x128_S1024x128) slices_S1024x128_o768_0_S64x128⟩,
    ⟨S64x128, extractStridedSlice S64x128 ![832, 0] (shapeCast S1024x128 x shapeCasts_S1x1024x128_S1024x128) slices_S1024x128_o832_0_S64x128⟩,
    ⟨S64x128, extractStridedSlice S64x128 ![896, 0] (shapeCast S1024x128 x shapeCasts_S1x1024x128_S1024x128) slices_S1024x128_o896_0_S64x128⟩,
    ⟨S64x128, extractStridedSlice S64x128 ![960, 0] (shapeCast S1024x128 x shapeCasts_S1x1024x128_S1024x128) slices_S1024x128_o960_0_S64x128⟩]
    concatenates_S64x128_S64x128_S64x128_S64x128_S64x128_S64x128_S64x128_S64x128_S64x128_S64x128_S64x128_S64x128_S64x128_S64x128_S64x128_S64x128_S64x2048_d1

/-- Chunk `i` of a vector whose chunks lie beside one another. -/
def laneChunk {α : Type} (x : S64x2048.Idx → α) (i : Fin 16) : S64x128.Idx → α :=
  extractStridedSlice S64x128 ![0, 128 * i.val] x (slice_lanes i)

/-- What a head of a grid point reads. -/
structure Head (F : FTy → Type) [FloatOps F] where
  q : Vec F S1x1024x128 .bf16
  g : Vec F S1x1024x128 .f32
  k : Vec F S1x1024x128 .bf16
  v : Vec F S1x1024x128 .bf16
  sums : Fin 7 → Vec F S1x64x2048 .f32
  st : Vec F S1x128x128 .f32
  ng : Vec F S1x128 .f32

namespace Head
variable (H : Head F)

def decay (b : Fin 7) : FVec F S64x2048 .f32 := exp (shapeCast S64x2048 (H.sums b) shapeCasts_S1x64x2048_S64x2048)
def decayR (b : Fin 7) : FVec F S64x2048 .bf16 := truncf .bf16 (H.decay b) bitsLt_bf16_f32
def q0 : FVec F S64x2048 .bf16 := mulf (lanes H.q) (truncf .bf16 (exp (lanes H.g)) bitsLt_bf16_f32)
def vChunk (i : Fin 16) : FVec F S64x128 .bf16 :=
  extractStridedSlice S64x128 ![64 * i.val, 0] (shapeCast S1024x128 H.v shapeCasts_S1x1024x128_S1024x128) (slice_tokens i)

/-- The products of a chunk's queries, plain and decayed, with its keys. -/
def both (i : Fin 16) : FVec F S128x64 .f32 :=
  matmul dot_S128x128_S64x128_S128x64_1_1_0_0_n_n none
    (concatenate S128x128 0 [⟨S64x128, laneChunk (lanes H.q) i⟩, ⟨S64x128, laneChunk H.q0 i⟩] concatenates_S64x128_S64x128_S128x128_d0)
    (laneChunk (lanes H.k) i) (constant S128x64 .f32 0x00000000#32)

/-- The scores at the first two levels. -/
def base (lev : IVec S64x64 32) (i : Fin 16) : FVec F S64x64 .f32 :=
  select (cmpi .eq lev (broadcast S64x64 0#32)) (extractStridedSlice S64x64 ![0, 0] (H.both i) slices_S128x64_o0_0_S64x64)
    (select (cmpi .eq lev (broadcast S64x64 1#32)) (extractStridedSlice S64x64 ![64, 0] (H.both i) slices_S128x64_o64_0_S64x64)
      (broadcast S64x64 (Scalar.ofBits .f32 0x00000000#32)))

/-- The products at one level. -/
def levelDot (b : Fin 7) (i : Fin 16) : FVec F S64x64 .f32 :=
  matmul dot_S64x128_S64x128_S64x64_1_1_0_0_n_n none (laneChunk (mulf (lanes H.q) (H.decayR b)) i)
    (laneChunk (mulf (lanes H.k) (H.decayR b)) i) (constant S64x64 .f32 0x00000000#32)

/-- One further level of scores. -/
def level (lev : IVec S64x64 32) (b : Fin 7) (l : BitVec 32) (i : Fin 16) (s : FVec F S64x64 .f32) : FVec F S64x64 .f32 :=
  select (cmpi .eq lev (broadcast S64x64 l)) (H.levelDot b i) s

def scores (lev : IVec S64x64 32) (i : Fin 16) : FVec F S64x64 .f32 :=
  H.level lev 4 6#32 i (H.level lev 3 5#32 i (H.level lev 2 4#32 i (H.level lev 1 3#32 i (H.level lev 0 2#32 i (H.base lev i)))))

/-- What a chunk's keys and values add to the state. -/
def update (i : Fin 16) : FVec F S128x128 .f32 :=
  matmul dot_S64x128_S64x128_S128x128_0_0_1_1_n_n none (H.vChunk i) (laneChunk (mulf (lanes H.k) (H.decayR 6)) i)
    (constant S128x128 .f32 0x00000000#32)

/-- The state after one more chunk. -/
def next (i : Fin 16) (s : FVec F S128x128 .f32) : FVec F S128x128 .f32 :=
  addf (mulf s (broadcastTo S128x128 (extractStridedSlice S1x128 ![63, 0] (laneChunk (H.decay 5) i) slices_S64x128_o63_0_S1x128)
    broadcasts_S1x128_S128x128)) (H.update i)

/-- The state before chunk `n`. -/
def state : (n : ℕ) → n ≤ 16 → FVec F S128x128 .f32
  | 0, _ => shapeCast S128x128 H.st shapeCasts_S1x128x128_S128x128
  | n + 1, h => H.next ⟨n, h⟩ (state n (Nat.le_of_succ_le h))

/-- The head's state as it is stored. -/
def stateOut : FVec F S1x128x128 .f32 := shapeCast S1x128x128 (H.state 16 le_rfl) shapeCasts_S128x128_S1x128x128

/-- A chunk's output before its norm. -/
def mix (lev : IVec S64x64 32) (i : Fin 16) : FVec F S64x128 .f32 :=
  addf (matmul dot_S64x64_S64x128_S64x128_1_0_0_1_n_n none (truncf .bf16 (H.scores lev i) bitsLt_bf16_f32) (H.vChunk i)
      (constant S64x128 .f32 0x00000000#32))
    (matmul dot_S64x128_S128x128_S64x128_1_1_0_0_n_n none (laneChunk (mulf (lanes H.q) (H.decayR 5)) i)
      (truncf .bf16 (H.state i.val i.isLt.le) bitsLt_bf16_f32) (constant S64x128 .f32 0x00000000#32))

end Head

/-- The gated norm of a chunk's output. -/
def normed (ng : Vec F S1x128 .f32) (og : Vec F S1x64x128 .bf16) (o : FVec F S64x128 .f32) : FVec F S1x64x128 .bf16 :=
  shapeCast S1x64x128 (truncf .bf16
    (mulf (mulf (mulf o (broadcastTo S64x128 (rsqrt (addf (divf (shapeCast S64x1
        (multiReduction .add [1] S64 (mulf o o) 0x00000000#32 reduces_S64x128_S64 (.inl rfl) rfl) shapeCasts_S64_S64x1)
        (broadcast S64x1 (Scalar.ofBits .f32 0x43000000#32))) (broadcast S64x1 (Scalar.ofBits .f32 0x358637BD#32))))
        broadcasts_S64x1_S64x128)) (broadcastTo S64x128 ng broadcasts_S1x128_S64x128))
      (extf .f32 (shapeCast S64x128 og shapeCasts_S1x64x128_S64x128) bitsLt_bf16_f32)) bitsLt_bf16_f32) shapeCasts_S64x128_S1x64x128

/-- The piece that chunk `i` of a head stores. -/
def Head.out (H : Head F) (lev : IVec S64x64 32) (og : Vec F S1x64x128 .bf16) (i : Fin 16) : FVec F S1x64x128 .bf16 :=
  normed H.ng og (H.mix lev i)

end Cert.Hgrn
-- ==== Proof.Hgrn.Pieces.lean ====
module

public import proofs.«01_k».proof.Proof.Hgrn.Head

@[expose] public section

set_option maxRecDepth 65536

noncomputable section

/-! The stores of one grid point of `hgrn`: for each of its four heads 16 chunks of 64 tokens and one state. -/

namespace Cert.Hgrn

open Cert.KernelIdeal Cert.KernelIdeal.Gen Idealize.ShloMosaic Idealize.ShloMosaic.TcCoe

variable {F : FTy → Type} [FloatOps F]

theorem inb_tokens (h : Fin 4) : ∀ a, (![0, 0, 128 * h.val] : Fin 3 → Nat) a + S1x1024x128.size a ≤ S1x1024x512.size a := by
  fin_cases h <;> decide
theorem inb_chunk (h : Fin 4) (i : Fin 16) :
    ∀ a, (![0, 64 * i.val, 128 * h.val] : Fin 3 → Nat) a + S1x64x128.size a ≤ S1x1024x512.size a := by
  intro a; have h1 := h.isLt; have h2 := i.isLt
  match a with
  | 0 => show 0 + 1 ≤ 1; omega
  | 1 => show 64 * i.val + 64 ≤ 1024; omega
  | 2 => show 128 * h.val + 128 ≤ 512; omega
theorem inb_gain (h : Fin 4) : ∀ a, (![0, 128 * h.val] : Fin 2 → Nat) a + S1x128.size a ≤ S1x512.size a := by
  fin_cases h <;> decide
theorem inb_state (h : Fin 4) : ∀ a, (![h.val, 0, 0] : Fin 3 → Nat) a + S1x128x128.size a ≤ S4x128x128.size a := by
  fin_cases h <;> decide
theorem inb_sums (h : Fin 4) : ∀ a, (![h.val, 0, 0] : Fin 3 → Nat) a + S1x448x2048.size a ≤ S4x448x2048.size a := by
  fin_cases h <;> decide
theorem inb_block (h : Fin 4) (b : Fin 7) :
    ∀ a, (![h.val, 64 * b.val, 0] : Fin 3 → Nat) a + S1x64x2048.size a ≤ S4x448x2048.size a := by
  fin_cases h <;> fin_cases b <;> decide

section
variable (arg3 : Memref sig .tc .vmem S448x192 .bf16) (harg3 : arg3.IsWhole) (arg4 : Memref sig .tc .vmem S1x1024x512 .bf16) (harg4 : arg4.IsWhole)
  (arg5 : Memref sig .tc .vmem S1x1024x512 .f32) (harg5 : arg5.IsWhole) (arg6 : Memref sig .tc .vmem S1x1024x512 .bf16) (harg6 : arg6.IsWhole)
  (arg7 : Memref sig .tc .vmem S1x1024x512 .bf16) (harg7 : arg7.IsWhole) (arg8 : Memref sig .tc .vmem S1x1024x512 .bf16) (harg8 : arg8.IsWhole)
  (arg9 : Memref sig .tc .vmem S1x512 .f32) (harg9 : arg9.IsWhole) (arg11 : Memref sig .tc .vmem S4x128x128 .f32) (harg11 : arg11.IsWhole)
  (arg12 : Memref sig .tc .vmem S4x448x2048 .f32)
  (x0 : Vec F S448x192 .bf16) (x1 : Vec F S1x1024x512 .bf16) (x2 : Vec F S1x1024x512 .f32) (x3 : Vec F S1x1024x512 .bf16)
  (x4 : Vec F S1x1024x512 .bf16) (x5 : Vec F S1x1024x512 .bf16) (x6 : Vec F S1x512 .f32) (xs0 : Vec F S4x128x128 .f32)

/-- The decay sums of head `h`. -/
def sumsOf (h : Fin 4) : Vec F S1x448x2048 .f32 :=
  k0_pay13 (View.readAt (Elt F) arg5.view (Rect.unit (s := S1x1024x512) ![0, 0, 128 * h.val] S1x1024x128.size (inb_tokens h)).toLoadRect (harg5.unread x2))
    (View.readAt (Elt F) arg3.view (Rect.unit (s := S448x192) ![0, 0] S448x192.size inb_S448x192_S448x192_0_0).toLoadRect (harg3.unread x0))

/-- The decay sums stored so far, `n` heads of them. -/
def sumPieces : (n : ℕ) → n ≤ 4 → List (View.Piece (Elt F) S4x448x2048 .f32)
  | 0, _ => []
  | n + 1, h => ⟨Rect.unit (s := S4x448x2048) ![n, 0, 0] S1x448x2048.size (inb_sums ⟨n, h⟩), sumsOf arg3 harg3 arg5 harg5 x0 x2 ⟨n, h⟩⟩ ::
      sumPieces n (Nat.le_of_succ_le h)

/-- What head `h` reads, over the state `st`. -/
def headOf (h : Fin 4) (st : Vec F S1x128x128 .f32) : Head F where
  q := View.readAt (Elt F) arg4.view (Rect.unit (s := S1x1024x512) ![0, 0, 128 * h.val] S1x1024x128.size (inb_tokens h)).toLoadRect (harg4.unread x1)
  g := View.readAt (Elt F) arg5.view (Rect.unit (s := S1x1024x512) ![0, 0, 128 * h.val] S1x1024x128.size (inb_tokens h)).toLoadRect (harg5.unread x2)
  k := View.readAt (Elt F) arg6.view (Rect.unit (s := S1x1024x512) ![0, 0, 128 * h.val] S1x1024x128.size (inb_tokens h)).toLoadRect (harg6.unread x3)
  v := View.readAt (Elt F) arg7.view (Rect.unit (s := S1x1024x512) ![0, 0, 128 * h.val] S1x1024x128.size (inb_tokens h)).toLoadRect (harg7.unread x4)
  sums := fun b => arg12.view.readCov (sumPieces arg3 harg3 arg5 harg5 x0 x2 4 le_rfl)
    (Rect.unit (s := S4x448x2048) ![h.val, 64 * b.val, 0] S1x64x2048.size (inb_block h b)).toLoadRect
  st := st
  ng := View.readAt (Elt F) arg9.view (Rect.unit (s := S1x512) ![0, 128 * h.val] S1x128.size (inb_gain h)).toLoadRect (harg9.unread x6)

/-- The state head `h` reads when the grid point does not reset it. -/
def stB (h : Fin 4) : Vec F S1x128x128 .f32 :=
  View.readAt (Elt F) arg11.view (Rect.unit (s := S4x128x128) ![h.val, 0, 0] S1x128x128.size (inb_state h)).toLoadRect (harg11.unread xs0)

/-- The states stored so far over `L`, `n` heads of them, the state each head reads being given. -/
def statePieces (L : List (View.Piece (Elt F) S4x128x128 .f32)) (st : List (View.Piece (Elt F) S4x128x128 .f32) → Fin 4 → Vec F S1x128x128 .f32) :
    (n : ℕ) → n ≤ 4 → List (View.Piece (Elt F) S4x128x128 .f32)
  | 0, _ => L
  | n + 1, h => ⟨Rect.unit (s := S4x128x128) ![n, 0, 0] S1x128x128.size (inb_state ⟨n, h⟩),
      (headOf arg3 harg3 arg4 harg4 arg5 harg5 arg6 harg6 arg7 harg7 arg9 harg9 arg12 x0 x1 x2 x3 x4 x6 ⟨n, h⟩
        (st (statePieces L st n (Nat.le_of_succ_le h)) ⟨n, h⟩)).stateOut⟩ :: statePieces L st n (Nat.le_of_succ_le h)

/-- The chunks that head `h` stores over `L`, `n` of them. -/
def chunkPieces (lev : IVec S64x64 32) (h : Fin 4) (H : Head F) (L : List (View.Piece (Elt F) S1x1024x512 .bf16)) :
    (n : ℕ) → n ≤ 16 → List (View.Piece (Elt F) S1x1024x512 .bf16)
  | 0, _ => L
  | n + 1, hn => ⟨Rect.unit (s := S1x1024x512) ![0, 64 * n, 128 * h.val] S1x64x128.size (inb_chunk h ⟨n, hn⟩),
      H.out lev (View.readAt (Elt F) arg8.view (Rect.unit (s := S1x1024x512) ![0, 64 * n, 128 * h.val] S1x64x128.size (inb_chunk h ⟨n, hn⟩)).toLoadRect
        (harg8.unread x5)) ⟨n, hn⟩⟩ :: chunkPieces lev h H L n (Nat.le_of_succ_le hn)

/-- The chunks of `n` heads. -/
def outPieces (lev : IVec S64x64 32) (H : Fin 4 → Head F) : (n : ℕ) → n ≤ 4 → List (View.Piece (Elt F) S1x1024x512 .bf16)
  | 0, _ => []
  | n + 1, h => chunkPieces arg8 harg8 x5 lev ⟨n, h⟩ (H ⟨n, h⟩) (outPieces lev H n (Nat.le_of_succ_le h)) 16 le_rfl

/-- The store that resets the states, and the state head `h` reads back over the stores before. -/
def resetPieces : List (View.Piece (Elt F) S4x128x128 .f32) :=
  [⟨Rect.unit (s := S4x128x128) ![0, 0, 0] S4x128x128.size inb_S4x128x128_S4x128x128_0_0_0, k0_pay1⟩]
def stA (L : List (View.Piece (Elt F) S4x128x128 .f32)) (h : Fin 4) : Vec F S1x128x128 .f32 :=
  arg11.view.readCov L (Rect.unit (s := S4x128x128) ![h.val, 0, 0] S1x128x128.size (inb_state h)).toLoadRect

/-- Token pair `(t, s)`'s level: the bit length of `t xor s`, and `-1` for `t < s`. -/
def levels : IVec S64x64 32 := kernelRun0_B.sl.r

variable (c : Dev nD) (i : grid0.Coords) (arg10 : Memref sig .tc .vmem S1x1024x512 .bf16) (harg10 : arg10.IsWhole) (harg12 : arg12.IsWhole)

theorem statePieces_B (hc0 : ¬ cond0_0 i) :
    (kernelRun0_B c i arg3 harg3 arg4 harg4 arg5 harg5 arg6 harg6 arg7 harg7 arg8 harg8 arg9 harg9 arg10 harg10 arg11 harg11 arg12 harg12
      hc0 x0 x1 x2 x3 x4 x5 x6 xs0).2.1 =
    statePieces arg3 harg3 arg4 harg4 arg5 harg5 arg6 harg6 arg7 harg7 arg9 harg9 arg12 x0 x1 x2 x3 x4 x6 []
      (fun _ h => stB arg11 harg11 xs0 h) 4 le_rfl := by
  sl_kernel_rfl

theorem statePieces_A (hc0 : cond0_0 i) :
    (kernelRun0_A c i arg3 harg3 arg4 harg4 arg5 harg5 arg6 harg6 arg7 harg7 arg8 harg8 arg9 harg9 arg10 harg10 arg11 harg11 arg12 harg12
      hc0 x0 x1 x2 x3 x4 x5 x6).2.1 =
    statePieces arg3 harg3 arg4 harg4 arg5 harg5 arg6 harg6 arg7 harg7 arg9 harg9 arg12 x0 x1 x2 x3 x4 x6
      resetPieces (stA arg11) 4 le_rfl := by
  sl_kernel_rfl

theorem outPieces_B (hc0 : ¬ cond0_0 i) :
    (kernelRun0_B c i arg3 harg3 arg4 harg4 arg5 harg5 arg6 harg6 arg7 harg7 arg8 harg8 arg9 harg9 arg10 harg10 arg11 harg11 arg12 harg12
      hc0 x0 x1 x2 x3 x4 x5 x6 xs0).1 =
    outPieces arg8 harg8 x5 levels (fun h => headOf arg3 harg3 arg4 harg4 arg5 harg5 arg6 harg6 arg7 harg7 arg9 harg9 arg12 x0 x1 x2 x3 x4 x6 h
      (stB arg11 harg11 xs0 h)) 4 le_rfl := by
  sl_kernel_rfl

theorem outPieces_A (hc0 : cond0_0 i) :
    (kernelRun0_A c i arg3 harg3 arg4 harg4 arg5 harg5 arg6 harg6 arg7 harg7 arg8 harg8 arg9 harg9 arg10 harg10 arg11 harg11 arg12 harg12
      hc0 x0 x1 x2 x3 x4 x5 x6).1 =
    outPieces arg8 harg8 x5 levels (fun h => headOf arg3 harg3 arg4 harg4 arg5 harg5 arg6 harg6 arg7 harg7 arg9 harg9 arg12 x0 x1 x2 x3 x4 x6 h
      (stA arg11 (statePieces arg3 harg3 arg4 harg4 arg5 harg5 arg6 harg6 arg7 harg7 arg9 harg9 arg12 x0 x1 x2 x3 x4 x6
        resetPieces (stA arg11) h.val h.isLt.le) h)) 4 le_rfl := by
  sl_kernel_rfl
end

end Cert.Hgrn
-- ==== Proof.Hgrn.Levels.lean ====
module

public import proofs.«01_k».proof.Proof.Hgrn.Pieces
public import Idealize.ShloMosaic.Lib.Pointwise

@[expose] public section

set_option maxRecDepth 65536

noncomputable section

/-! The kernel's two tables: the level of each token pair, and the 0-1 matrix whose rows are the ranges of tokens summed. -/

namespace Cert.Hgrn

open Cert.KernelIdeal Cert.KernelIdeal.Gen Idealize.ShloMosaic Idealize.ShloMosaic.TcCoe

/-- The level of `(t, s)`: -1 above the diagonal, else the number of halvings after which `t` and `s` agree. -/
def levelOf (t s : Fin 64) : BitVec 32 :=
  if t < s then 4294967295#32 else if t = s then 0#32 else if t.val / 2 = s.val / 2 then 1#32 else if t.val / 4 = s.val / 4 then 2#32
  else if t.val / 8 = s.val / 8 then 3#32 else if t.val / 16 = s.val / 16 then 4#32 else if t.val / 32 = s.val / 32 then 5#32 else 6#32

theorem levels_apply (t s : Fin 64) : levels (ix2 t s) = levelOf t s :=
  (by decide +kernel : ∀ t s : Fin 64, levels (ix2 t s) = levelOf t s) t s

/-- The tokens whose decays row `t` of block `b` sums: up to the middle of the pair of halves of size `2^(b+1)`, from
    the one side or the other; in block 5 those up to `t`, in block 6 those after it. -/
def inRange (b : Fin 7) (t j : Fin 64) : Bool :=
  if b.val < 5 then
    if t.val / 2 ^ (b.val + 1) % 2 = 1 then decide (2 ^ (b.val + 1) * (t.val / 2 ^ (b.val + 1)) ≤ j.val ∧ j.val ≤ t.val)
    else decide (t.val < j.val ∧ j.val < 2 ^ (b.val + 1) * (t.val / 2 ^ (b.val + 1)) + 2 ^ (b.val + 1))
  else if b.val = 5 then decide (j.val ≤ t.val) else decide (t.val < j.val)

end Cert.Hgrn
-- ==== Proof.Hgrn.Rows.lean ====
module

public import proofs.«01_k».proof.Proof.Hgrn.Cumsum
public import proofs.«01_k».proof.Proof.Hgrn.Levels

@[expose] public section

noncomputable section

/-! The gated recurrence of one head by chunks of 64 tokens, and the splitting of a decay between two tokens into the two
    halves either side of the middle between them. -/

namespace Cert.Hgrn

open Idealize.ShloMosaic

/-- A chunk of one array of a head. -/
abbrev Rows := Fin 64 → Fin 128 → EReal
/-- A head's state. -/
abbrev Mat := Fin 128 → Fin 128 → EReal

def cum (G : Rows) (t : Fin 64) (d : Fin 128) : EReal := upTo (fun j => G j d) t
def score (Q G K : Rows) (t u : Fin 64) : EReal :=
  ∑ d, Q t d * Ideal.exp (if u ≤ t then cum G t d - cum G u d else ⊥) * K u d
def outRow (Q G K V : Rows) (S : Mat) (t : Fin 64) (v : Fin 128) : EReal :=
  ∑ u, score Q G K t u * V u v + ∑ d, Q t d * Ideal.exp (cum G t d) * S d v
def nextState (G K V : Rows) (S : Mat) : Mat := fun k v =>
  Ideal.exp (cum G 63 k) * S k v + ∑ u, K u k * Ideal.exp (cum G 63 k - cum G u k) * V u v

/-- The state before chunk `n`, from zero. -/
def stateAt (G K V : Fin 64 → Rows) : ℕ → Mat
  | 0 => fun _ _ => 0
  | n + 1 => if h : n < 64 then nextState (G ⟨n, h⟩) (K ⟨n, h⟩) (V ⟨n, h⟩) (stateAt G K V n) else stateAt G K V n

/-- The gated norm of a row. -/
def normRow (o : Fin 128 → EReal) (ng og : EReal) (v : Fin 128) : EReal :=
  o v * Ideal.rsqrt (Ideal.div (∑ x, o x * o x) (Ideal.ofBits FTy.f32 1124073472#32) + Ideal.ofBits FTy.f32 897988541#32) * ng * og

/-- Row `t` of block `b` of the decay sums. -/
def rangeSum (G : Rows) (b : Fin 7) (t : Fin 64) (d : Fin 128) : EReal := ∑ j : Fin 64, if inRange b t j then G j d else 0

theorem sum_coe (p : Fin 64 → Prop) [DecidablePred p] (g : Fin 64 → ℝ) :
    (∑ j, if p j then (g j : EReal) else 0) = ((∑ j, if p j then g j else 0 : ℝ) : EReal) := by
  have h : ∀ s : Finset (Fin 64), (∑ j ∈ s, if p j then (g j : EReal) else 0) = ((∑ j ∈ s, if p j then g j else 0 : ℝ) : EReal) := by
    intro s
    induction s using Finset.induction_on with
    | empty => simp
    | insert a s ha ih =>
      rw [Finset.sum_insert ha, Finset.sum_insert ha, ih, EReal.coe_add]
      split_ifs <;> simp
  exact h Finset.univ

section
variable (g : Fin 64 → Fin 128 → ℝ)

/-- The decays as extended reals. -/
abbrev lift : Rows := fun j d => (g j d : EReal)

theorem cum_coe (t : Fin 64) (d : Fin 128) : cum (lift g) t d = ((∑ j, if j ≤ t then g j d else 0 : ℝ) : EReal) :=
  sum_coe (fun j => j ≤ t) fun j => g j d
theorem range_coe (b : Fin 7) (t : Fin 64) (d : Fin 128) :
    rangeSum (lift g) b t d = ((∑ j, if inRange b t j then g j d else 0 : ℝ) : EReal) :=
  sum_coe (fun j => inRange b t j = true) fun j => g j d

/-- Level `b + 2` pairs a token of an upper half with one of the lower half beside it. -/
theorem level_halves : ∀ (b : Fin 5) (t u : Fin 64), levelOf t u = BitVec.ofNat 32 (b.val + 2) →
    t.val / 2 ^ (b.val + 1) = u.val / 2 ^ (b.val + 1) + 1 ∧ t.val / 2 ^ (b.val + 1) % 2 = 1 := by decide +kernel
theorem level_one : ∀ t u : Fin 64, levelOf t u = 1#32 → t.val = u.val + 1 := by decide +kernel
theorem level_zero : ∀ t u : Fin 64, levelOf t u = 0#32 → t = u := by decide +kernel
theorem level_cases : ∀ t u : Fin 64, u ≤ t → levelOf t u = 0#32 ∨ levelOf t u = 1#32 ∨ ∃ b : Fin 5, levelOf t u = BitVec.ofNat 32 (b.val + 2) := by
  decide +kernel
theorem level_before (t u : Fin 64) (h : ¬u ≤ t) : levelOf t u = 4294967295#32 := if_pos (not_le.1 h)

theorem split_upper (b : Fin 5) (t u : Fin 64) (h : levelOf t u = BitVec.ofNat 32 (b.val + 2)) (j : Fin 64) :
    inRange (b.castLE (by decide)) t j = decide (j.val ≤ t.val ∧ u.val < j.val ∧ 2 ^ (b.val + 1) * (t.val / 2 ^ (b.val + 1)) ≤ j.val)
    ∧ inRange (b.castLE (by decide)) u j = decide (j.val ≤ t.val ∧ u.val < j.val ∧ j.val < 2 ^ (b.val + 1) * (t.val / 2 ^ (b.val + 1))) := by
  obtain ⟨h1, h2⟩ := level_halves b t u h
  have hb : (b.castLE (by decide : 5 ≤ 7)).val = b.val := rfl
  have h3 : ¬u.val / 2 ^ (b.val + 1) % 2 = 1 := by omega
  have hp : 0 < 2 ^ (b.val + 1) := by positivity
  have ht := Nat.div_add_mod t.val (2 ^ (b.val + 1))
  have hu := Nat.div_add_mod u.val (2 ^ (b.val + 1))
  have hu' := Nat.mod_lt u.val hp
  have hm : 2 ^ (b.val + 1) * (t.val / 2 ^ (b.val + 1)) = 2 ^ (b.val + 1) * (u.val / 2 ^ (b.val + 1)) + 2 ^ (b.val + 1) := by
    rw [h1, Nat.mul_add, Nat.mul_one]
  unfold inRange
  rw [hb, if_pos b.isLt, if_pos h2, if_pos b.isLt, if_neg h3]
  constructor <;> exact decide_eq_decide.2 (by omega)

/-- The decay between two tokens at level `b + 2` is the product of the two halves' decays. -/
theorem exp_split (b : Fin 5) (t u : Fin 64) (h : levelOf t u = BitVec.ofNat 32 (b.val + 2)) (d : Fin 128) :
    Ideal.exp (rangeSum (lift g) (b.castLE (by decide)) t d) * Ideal.exp (rangeSum (lift g) (b.castLE (by decide)) u d)
      = Ideal.exp (cum (lift g) t d - cum (lift g) u d) := by
  rw [range_coe, range_coe, cum_coe, cum_coe, ← EReal.coe_sub, Ideal.exp_coe, Ideal.exp_coe, Ideal.exp_coe, ← EReal.coe_mul, ← Real.exp_add]
  congr 2
  rw [eq_sub_iff_add_eq, ← Finset.sum_add_distrib, ← Finset.sum_add_distrib]
  refine Finset.sum_congr rfl fun j _ => ?_
  obtain ⟨h1, h2⟩ := split_upper b t u h j
  have hut : u.val ≤ t.val := by
    by_contra hc
    have := Nat.div_le_div_right (c := 2 ^ (b.val + 1)) (Nat.le_of_lt (not_le.1 hc))
    have := (level_halves b t u h).1
    omega
  rw [h1, h2]
  simp only [decide_eq_true_eq, Fin.le_def]
  generalize 2 ^ (b.val + 1) * (t.val / 2 ^ (b.val + 1)) = M
  split_ifs <;> first | (exfalso; omega) | simp

/-- The scores of one level, the decay split between queries and keys. -/
def levelRow (Q G K : Rows) (b : Fin 7) (t u : Fin 64) : EReal :=
  ∑ d, (Q t d * Ideal.exp (rangeSum G b t d)) * (K u d * Ideal.exp (rangeSum G b u d))

theorem levelRow_eq (Q K : Rows) (b : Fin 5) (t u : Fin 64) (hut : u ≤ t) (h : levelOf t u = BitVec.ofNat 32 (b.val + 2)) :
    levelRow Q (lift g) K (b.castLE (by decide)) t u = score Q (lift g) K t u := by
  refine Finset.sum_congr rfl fun d _ => ?_
  rw [if_pos hut, ← exp_split g b t u h d, mul_mul_mul_comm, mul_right_comm]

theorem scores_eq (Q K : Rows) (t u : Fin 64) :
    (if levelOf t u = 6#32 then levelRow Q (lift g) K 4 t u else if levelOf t u = 5#32 then levelRow Q (lift g) K 3 t u
      else if levelOf t u = 4#32 then levelRow Q (lift g) K 2 t u else if levelOf t u = 3#32 then levelRow Q (lift g) K 1 t u
      else if levelOf t u = 2#32 then levelRow Q (lift g) K 0 t u else if levelOf t u = 0#32 then ∑ d, Q t d * K u d
      else if levelOf t u = 1#32 then ∑ d, Q t d * Ideal.exp (lift g t d) * K u d else 0) = score Q (lift g) K t u := by
  by_cases hut : u ≤ t
  · obtain h | h | ⟨b, h⟩ := level_cases t u hut
    · rw [h]
      simp only [BitVec.reduceEq, if_false, if_true]
      refine Finset.sum_congr rfl fun d _ => ?_
      rw [if_pos hut, level_zero t u h, cum_coe, ← EReal.coe_sub, sub_self, Ideal.exp_coe, Real.exp_zero, EReal.coe_one, mul_one]
    · rw [h]
      simp only [BitVec.reduceEq, if_false, if_true]
      refine Finset.sum_congr rfl fun d _ => ?_
      rw [if_pos hut, cum_coe, cum_coe, ← EReal.coe_sub]
      congr 3
      have ht := level_one t u h
      rw [EReal.coe_eq_coe_iff, eq_sub_iff_add_eq]
      have hs : g t d = ∑ j, if j = t then g j d else 0 := by simp
      rw [hs, ← Finset.sum_add_distrib]
      refine Finset.sum_congr rfl fun j _ => ?_
      simp only [Fin.le_def, Fin.ext_iff]
      split_ifs <;> first | (exfalso; omega) | simp
    · have e := levelRow_eq g Q K b t u hut h
      rw [← e, h]
      fin_cases b <;> rfl
  · rw [level_before t u hut]
    simp only [BitVec.reduceEq, if_false]
    unfold score
    rw [Finset.sum_eq_zero]
    intro d _
    rw [if_neg hut, Ideal.exp_bot, mul_zero, zero_mul]

theorem range_upTo (G : Rows) (t : Fin 64) (d : Fin 128) : rangeSum G 5 t d = cum G t d := by
  unfold rangeSum cum upTo
  refine Finset.sum_congr rfl fun j _ => ?_
  refine if_congr ?_ rfl rfl
  show decide (j.val ≤ t.val) = true ↔ _
  rw [decide_eq_true_eq, Fin.le_def]

theorem range_after (t : Fin 64) (d : Fin 128) : rangeSum (lift g) 6 t d = cum (lift g) 63 d - cum (lift g) t d := by
  rw [range_coe, cum_coe, cum_coe, ← EReal.coe_sub, EReal.coe_eq_coe_iff, eq_sub_iff_add_eq, ← Finset.sum_add_distrib]
  refine Finset.sum_congr rfl fun j _ => ?_
  have h : inRange 6 t j = decide (t.val < j.val) := rfl
  have hj : j.val ≤ (63 : Fin 64).val := Nat.le_of_lt_succ j.isLt
  rw [h]
  simp only [decide_eq_true_eq, Fin.le_def]
  split_ifs <;> first | (exfalso; omega) | simp

theorem next_eq (K V : Rows) (S : Mat) (v k : Fin 128) :
    S k v * Ideal.exp (rangeSum (lift g) 5 63 k) + ∑ u, V u v * (K u k * Ideal.exp (rangeSum (lift g) 6 u k))
      = nextState (lift g) K V S k v := by
  unfold nextState
  rw [range_upTo, mul_comm]
  congr 1
  refine Finset.sum_congr rfl fun u _ => ?_
  rw [range_after, mul_comm]

end

end Cert.Hgrn
-- ==== Proof.Hgrn.Trip.lean ====
module

public import proofs.«01_k».proof.Proof.Hgrn.Rows
public import proofs.«01_k».proof.Proof.Gen.ReferenceIdeal.Step
public import Idealize.ShloMosaic.Lib.Pointwise

@[expose] public section

set_option maxRecDepth 65536

noncomputable section

/-! One trip of the reference's loop, element by element. -/

namespace Cert.Hgrn

open Cert.ReferenceIdeal Cert.ReferenceIdeal.Gen Cert.ReferenceIdeal.Step Idealize.ShloMosaic

variable (j : Fin 64) (s : State (Ideal))

theorem start_eq : (BitVec.ofNat 32 j.val).toInt = (j.val : Int) :=
  (by decide +kernel : ∀ j : Fin 64, (BitVec.ofNat 32 j.val).toInt = (j.val : Int)) j

/-- A block of whole trailing axes starts at trip `j` on the leading axis and at 0 on the others. -/
theorem start_lead (start : Fin 5 → Int) (h0 : start 0 = (j.val : Int)) :
    Host.clampedStart S64x16x4x64x128 S1x16x4x64x128 rfl start 0 = j.val :=
  Host.clampedStart_of_le _ _ _ _ h0 (by show j.val + 1 ≤ 64; omega)
/-- Where trip `j` starts, as the slice's scalars say it. -/
abbrev starts : Fin 5 → Int := fun k => BitVec.toInt (![constantI S_ 32 (BitVec.ofNat 32 j.val), constantI S_ 32 0#32, constantI S_ 32 0#32,
  constantI S_ 32 0#32, constantI S_ 32 0#32] k (Shape.Idx.first h_S_))
theorem starts_lead : Host.clampedStart S64x16x4x64x128 S1x16x4x64x128 rfl (starts j) 0 = j.val := start_lead j (starts j) (start_eq j)
theorem start_rest (start : Fin 5 → Int) (a : Fin 5) (ha : a ≠ 0) :
    Host.clampedStart S64x16x4x64x128 S1x16x4x64x128 rfl start a = 0 := by
  have h := Host.clampedStart_le (s := S64x16x4x64x128) (t := S1x16x4x64x128) rfl start a (by fin_cases a <;> decide)
  fin_cases a
  · exact absurd rfl ha
  all_goals
    refine Nat.le_zero.1 (Nat.le_of_add_le_add_right (h.trans (Nat.le_of_eq ?_)))
    exact (Nat.zero_add _).symm

theorem ix5_congr {n0 n1 n2 n3 n4 : ℕ} {a a' : Fin n0} {b b' : Fin n1} {c c' : Fin n2} {d d' : Fin n3} {e e' : Fin n4}
    (h0 : a.val = a'.val) (h1 : b.val = b'.val) (h2 : c.val = c'.val) (h3 : d.val = d'.val) (h4 : e.val = e'.val) :
    (ix5 a b c d e : (⟨5, ![n0, n1, n2, n3, n4]⟩ : Shape).Idx) = ix5 a' b' c' d' e' := by
  obtain rfl := Fin.ext h0; obtain rfl := Fin.ext h1; obtain rfl := Fin.ext h2; obtain rfl := Fin.ext h3; obtain rfl := Fin.ext h4
  rfl
theorem ix4_congr {n0 n1 n2 n3 : ℕ} {a a' : Fin n0} {b b' : Fin n1} {c c' : Fin n2} {d d' : Fin n3}
    (h0 : a.val = a'.val) (h1 : b.val = b'.val) (h2 : c.val = c'.val) (h3 : d.val = d'.val) :
    (ix4 a b c d : (⟨4, ![n0, n1, n2, n3]⟩ : Shape).Idx) = ix4 a' b' c' d' := by
  obtain rfl := Fin.ext h0; obtain rfl := Fin.ext h1; obtain rfl := Fin.ext h2; obtain rfl := Fin.ext h3
  rfl

theorem b5_apply (b : Fin 16) (h : Fin 4) (t : Fin 64) (d : Fin 128) : b5 j.val s (ix4 b h t d) = s.main_v13_0 (ix5 j b h t d) := by
  pointwise [b5, b4, b0, b1, b2, b3]
  refine congrArg s.main_v13_0 (ix5_congr ?_ ?_ ?_ ?_ ?_)
  · exact congrArg (· + 0) (starts_lead j)
  · exact (congrArg (· + b.val) (start_rest _ 1 (by decide))).trans (Nat.zero_add _)
  · exact (congrArg (· + h.val) (start_rest _ 2 (by decide))).trans (Nat.zero_add _)
  · exact (congrArg (· + t.val) (start_rest _ 3 (by decide))).trans (Nat.zero_add _)
  · exact (congrArg (· + d.val) (start_rest _ 4 (by decide))).trans (Nat.zero_add _)

theorem b11_apply (b : Fin 16) (h : Fin 4) (t : Fin 64) (d : Fin 128) : b11 j.val s (ix4 b h t d) = s.main_v13_1 (ix5 j b h t d) := by
  pointwise [b11, b10, b6, b7, b8, b9]
  refine congrArg s.main_v13_1 (ix5_congr ?_ ?_ ?_ ?_ ?_)
  · exact congrArg (· + 0) (starts_lead j)
  · exact (congrArg (· + b.val) (start_rest _ 1 (by decide))).trans (Nat.zero_add _)
  · exact (congrArg (· + h.val) (start_rest _ 2 (by decide))).trans (Nat.zero_add _)
  · exact (congrArg (· + t.val) (start_rest _ 3 (by decide))).trans (Nat.zero_add _)
  · exact (congrArg (· + d.val) (start_rest _ 4 (by decide))).trans (Nat.zero_add _)

theorem b17_apply (b : Fin 16) (h : Fin 4) (t : Fin 64) (d : Fin 128) : b17 j.val s (ix4 b h t d) = s.main_v13_2 (ix5 j b h t d) := by
  pointwise [b17, b16, b12, b13, b14, b15]
  refine congrArg s.main_v13_2 (ix5_congr ?_ ?_ ?_ ?_ ?_)
  · exact congrArg (· + 0) (starts_lead j)
  · exact (congrArg (· + b.val) (start_rest _ 1 (by decide))).trans (Nat.zero_add _)
  · exact (congrArg (· + h.val) (start_rest _ 2 (by decide))).trans (Nat.zero_add _)
  · exact (congrArg (· + t.val) (start_rest _ 3 (by decide))).trans (Nat.zero_add _)
  · exact (congrArg (· + d.val) (start_rest _ 4 (by decide))).trans (Nat.zero_add _)

theorem b23_apply (b : Fin 16) (h : Fin 4) (t : Fin 64) (d : Fin 128) : b23 j.val s (ix4 b h t d) = s.main_v13_3 (ix5 j b h t d) := by
  pointwise [b23, b22, b18, b19, b20, b21]
  refine congrArg s.main_v13_3 (ix5_congr ?_ ?_ ?_ ?_ ?_)
  · exact congrArg (· + 0) (starts_lead j)
  · exact (congrArg (· + b.val) (start_rest _ 1 (by decide))).trans (Nat.zero_add _)
  · exact (congrArg (· + h.val) (start_rest _ 2 (by decide))).trans (Nat.zero_add _)
  · exact (congrArg (· + t.val) (start_rest _ 3 (by decide))).trans (Nat.zero_add _)
  · exact (congrArg (· + d.val) (start_rest _ 4 (by decide))).trans (Nat.zero_add _)

/-- Chunk `n` of head `h` of sequence `b`. -/
abbrev chunk (x : FVec Ideal S64x16x4x64x128 .f32) (b : Fin 16) (h : Fin 4) (n : Fin 64) : Rows := fun t d => x (ix5 n b h t d)
/-- The state of head `h` of sequence `b`. -/
abbrev mat (x : FVec Ideal S16x4x128x128 .f32) (b : Fin 16) (h : Fin 4) : Mat := fun k v => x (ix4 b h k v)

theorem b26_apply (b : Fin 16) (h : Fin 4) (t : Fin 64) (d : Fin 128) : b26 j.val s (ix4 b h t d) = cum (chunk s.main_v13_3 b h j) t d := by
  refine (cumsum_apply _ _ (by pointwise [b25, b24]) b h t d).trans ?_
  simp only [b23_apply]
  rfl

theorem ge_eq (t u : Fin 64) : IntOp.cmpi .sge (IntOp.addi (BitVec.ofNat 32 t.val) 0#32) (BitVec.ofNat 32 u.val) = if u ≤ t then 1#1 else 0#1 :=
  (by decide +kernel : ∀ t u : Fin 64, IntOp.cmpi .sge (IntOp.addi (BitVec.ofNat 32 t.val) 0#32) (BitVec.ofNat 32 u.val) = if u ≤ t then 1#1 else 0#1) t u

theorem bot_eq : Ideal.ofBits FTy.f32 4286578688#32 = ⊥ := by
  simp [Ideal.ofBits, Ideal.ieee]

theorem mask_eq (t u : Fin 64) (x : EReal) :
    Scalar.select (Scalar.select (IntOp.cmpi .sge (IntOp.addi (BitVec.ofNat 32 t.val) 0#32) (BitVec.ofNat 32 u.val)) 1#1 0#1) x
      (Ideal.ofBits FTy.f32 4286578688#32) = if u ≤ t then x else ⊥ := by
  rw [ge_eq, bot_eq]
  by_cases h : u ≤ t
  · rw [if_pos h, if_pos h]
    rfl
  · rw [if_neg h, if_neg h]
    rfl

theorem b57_apply (b : Fin 16) (h : Fin 4) (t u : Fin 64) : b57 j.val s (ix4 b h t u) =
    score (chunk s.main_v13_0 b h j) (chunk s.main_v13_3 b h j) (chunk s.main_v13_1 b h j) t u := by
  pointwise [b57, b56, b55, b54, b53, b52, b51, b50, b49, b48, b47, b46, b45, b44, b43, b42, b41, b40, b39, b38, b37, b36, b35, b34, b33, b32, b31, b30, b29, b28, b27]
  simp only [mask_eq, b26_apply, b5_apply, b11_apply]
  rfl

theorem b62_apply (b : Fin 16) (h : Fin 4) (t : Fin 64) (v : Fin 128) : b62 j.val s (ix4 b h t v) =
    outRow (chunk s.main_v13_0 b h j) (chunk s.main_v13_3 b h j) (chunk s.main_v13_1 b h j) (chunk s.main_v13_2 b h j)
      (mat s.main_v13_5 b h) t v := by
  pointwise [b62, b61, b60, b59, b58]
  simp only [b57_apply, b26_apply, b5_apply, b17_apply]
  rfl

theorem b74_apply (b : Fin 16) (h : Fin 4) (k : Fin 128) (v : Fin 128) : b74 j.val s (ix4 b h k v) =
    nextState (chunk s.main_v13_3 b h j) (chunk s.main_v13_1 b h j) (chunk s.main_v13_2 b h j) (mat s.main_v13_5 b h) k v := by
  pointwise [b74, b73, b72, b71, b70, b69, b68, b67, b66, b65, b64, b63]
  simp only [b26_apply, b11_apply, b17_apply]
  rfl

theorem b80_apply (n : Fin 64) (b : Fin 16) (h : Fin 4) (t : Fin 64) (v : Fin 128) : b80 j.val s (ix5 n b h t v) =
    if n = j then b62 j.val s (ix4 b h t v) else s.main_v13_6 (ix5 n b h t v) := by
  pointwise [b80, b79, b78, b77, b76, b75]
  by_cases hn : n = j
  · subst hn
    rw [if_pos rfl]
    refine (dif_pos ⟨⟨?_, ?_⟩, ?_, ?_, ?_, ?_⟩).trans ?_
    · refine congrArg (b62 n.val s) (ix4_congr ?_ ?_ ?_ ?_)
      · exact (congrArg (b.val - ·) (start_rest _ 1 (by decide))).trans (Nat.sub_zero _)
      · exact (congrArg (h.val - ·) (start_rest _ 2 (by decide))).trans (Nat.sub_zero _)
      · exact (congrArg (t.val - ·) (start_rest _ 3 (by decide))).trans (Nat.sub_zero _)
      · exact (congrArg (v.val - ·) (start_rest _ 4 (by decide))).trans (Nat.sub_zero _)
    · rw [start_lead n _ (start_eq n)]
    · rw [start_lead n _ (start_eq n)]
      exact Nat.lt_succ_self _
    · rw [start_rest _ 1 (by decide)]
      exact Nat.zero_le _
    · rw [start_rest _ 2 (by decide)]
      exact Nat.zero_le _
    · rw [start_rest _ 3 (by decide)]
      exact Nat.zero_le _
    · rw [start_rest _ 4 (by decide)]
      exact Nat.zero_le _
  · rw [if_neg hn]
    refine dif_neg ?_
    rintro ⟨⟨h1, h2⟩, -⟩
    rw [start_lead j _ (start_eq j)] at h1 h2
    exact hn (Fin.ext (by omega))

end Cert.Hgrn
-- ==== Proof.Hgrn.RefRun.lean ====
module

public import proofs.«01_k».proof.Proof.Gen.ReferenceIdeal.Run
public import proofs.«01_k».proof.Proof.Gen.ReferenceIdeal.Step
public import Idealize.ShloMosaic.Lib.Tactic

@[expose] public section

set_option maxRecDepth 65536

noncomputable section

/-! The reference's run: 64 steps of its loop's state, from the arguments in chunks. -/

namespace Cert.Hgrn

open Cert.ReferenceIdeal Cert.ReferenceIdeal.Gen Cert.ReferenceIdeal.Step Cert.ReferenceIdeal.Value Idealize.ShloMosaic Idealize.ShloMosaic.TcCoe
open Idealize.SL.Sem Idealize.ShloMosaic.StableHlo

variable {F : FTy → Type} [FloatOps F]

/-- The loop's state in a device's contents. -/
def stateOf (V : Valuation τ sig (Elt F)) : State F :=
  { main_v13_5 := V (Proc.devRef .tc main_v13_5), main_v13_6 := V (Proc.devRef .tc main_v13_6), main_v13_0 := V (Proc.devRef .tc main_v13_0),
    main_v13_1 := V (Proc.devRef .tc main_v13_1), main_v13_2 := V (Proc.devRef .tc main_v13_2), main_v13_3 := V (Proc.devRef .tc main_v13_3) }

/-- The contents hold the state `s` before trip `j`. -/
structure Holds (V : Valuation τ sig (Elt F)) (j : ℕ) (s : State F) : Prop where
  state : stateOf V = s
  count : V (Proc.devRef .tc main_v13_4) = constantI S_ 32 (BitVec.ofNat 32 j)

theorem step5 (V : Valuation τ sig (Elt F)) (j : ℕ) (h : V (Proc.devRef .tc main_v13_4) = constantI S_ 32 (BitVec.ofNat 32 j)) :
    Value.step_main_v13_5 V = b74 j (stateOf V) := by
  simp only [Value.step_main_v13_5, res_main_while0b_v34, res_main_while0b_v35, res_main_while0b_v36, res_main_while0b_v38, res_main_while0b_v61]
  rw [h]
  sl_kernel_rfl

theorem step6 (V : Valuation τ sig (Elt F)) (j : ℕ) (h : V (Proc.devRef .tc main_v13_4) = constantI S_ 32 (BitVec.ofNat 32 j)) :
    Value.step_main_v13_6 V = b80 j (stateOf V) := by
  simp only [Value.step_main_v13_6, res_main_while0b_v34, res_main_while0b_v35, res_main_while0b_v36, res_main_while0b_v38, res_main_while0b_v61]
  rw [h]
  sl_kernel_rfl

theorem holds_step (V : Valuation τ sig (Elt F)) (j : ℕ) (s : State F) (h : Holds V j s) : Holds (STEP V) (j + 1) (step j s) := by
  obtain ⟨rfl, hc⟩ := h
  refine ⟨?_, ?_⟩
  · unfold stateOf step
    rw [STEP_main_v13_0, STEP_main_v13_1, STEP_main_v13_2, STEP_main_v13_3, STEP_main_v13_5, STEP_main_v13_6, step5 V j hc, step6 V j hc]
    rfl
  · rw [STEP_main_v13_4, Value.step_main_v13_4, hc]
    funext i
    exact (BitVec.ofNat_add j 1).symm

/-- The state after `n` trips. -/
def trips (s : State F) : ℕ → State F
  | 0 => s
  | n + 1 => step n (trips s n)

theorem holds_trips (V : Valuation τ sig (Elt F)) (s : State F) (h : Holds V 0 s) : ∀ n, Holds (STEP^[n] V) n (trips s n)
  | 0 => h
  | n + 1 => by
    rw [Function.iterate_succ_apply']
    exact holds_step _ n _ (holds_trips V s h n)

variable (m : (ℓ : Loc nD τ sig) → Buf (Elt F) ℓ) (ρ : Dev nD → PrngReg)

/-- The state the loop starts from. -/
abbrev start (c : Dev nD) : State F := init (m ((c.tc : Thread nD τ).loc main_arg0)) (m ((c.tc : Thread nD τ).loc main_arg1))
  (m ((c.tc : Thread nD τ).loc main_arg2)) (m ((c.tc : Thread nD τ).loc main_arg3))

set_option maxHeartbeats 400000 in
theorem holds_entry (c : Dev nD) : Holds (entryContents preI m c) 0 (start m c) := by
  constructor
  · unfold stateOf
    simp only [entryContents, afterL_cons, afterL_nil]
    after_reads_simp
    rfl
  · simp only [entryContents, afterL_cons, afterL_nil]
    after_reads_simp
    rfl

theorem result_of (V : Valuation τ sig (Elt F)) : out_main_v33 V =
    R_main_v33 (stateOf V) (V (Proc.devRef .tc main_arg4)) (V (Proc.devRef .tc main_arg5)) := by
  sl_kernel_rfl

theorem run_ref : θ_run (defs (F := F)) (onTc (τ := τ) (main (F := F))) ⟨m, fun _ => 0, ρ⟩ fun r => ∀ c : Dev nD,
      r.2.mem ((c.tc : Thread nD τ).loc main_v33) =
        R_main_v33 (trips (start m c) 64) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Value.run m ρ)
  rw [result_of, (holds_trips _ _ (holds_entry m c) 64).state, iter_main_arg4, iter_main_arg5]

end Cert.Hgrn
-- ==== Proof.Hgrn.Ref.lean ====
module

public import proofs.«01_k».proof.Proof.Hgrn.Trip
public import proofs.«01_k».proof.Proof.Hgrn.RefRun

@[expose] public section

set_option maxRecDepth 65536

noncomputable section

/-! The reference's result, element by element. -/

namespace Cert.Hgrn

open Cert.ReferenceIdeal Cert.ReferenceIdeal.Gen Cert.ReferenceIdeal.Step Idealize.ShloMosaic

section
variable (s : State Ideal)

theorem trips_inputs : ∀ n, (trips s n).main_v13_0 = s.main_v13_0 ∧ (trips s n).main_v13_1 = s.main_v13_1
    ∧ (trips s n).main_v13_2 = s.main_v13_2 ∧ (trips s n).main_v13_3 = s.main_v13_3
  | 0 => ⟨rfl, rfl, rfl, rfl⟩
  | n + 1 => trips_inputs n

theorem trips_state (h0 : ∀ i, s.main_v13_5 i = 0) (b : Fin 16) (h : Fin 4) : ∀ n, n ≤ 64 → mat (trips s n).main_v13_5 b h =
    stateAt (chunk s.main_v13_3 b h) (chunk s.main_v13_1 b h) (chunk s.main_v13_2 b h) n
  | 0, _ => by
    funext k v
    exact h0 _
  | n + 1, hn => by
    have hlt : n < 64 := hn
    have ih := trips_state h0 b h n (Nat.le_of_succ_le hn)
    obtain ⟨-, e1, e2, e3⟩ := trips_inputs s n
    funext k v
    show b74 (⟨n, hlt⟩ : Fin 64).val (trips s n) (ix4 b h k v) = _
    rw [b74_apply, ih, e1, e2, e3, stateAt, dif_pos hlt]

theorem trips_out (h0 : ∀ i, s.main_v13_5 i = 0) (b : Fin 16) (h : Fin 4) (j : Fin 64) (t : Fin 64) (v : Fin 128) : ∀ n, n ≤ 64 → j.val < n →
    (trips s n).main_v13_6 (ix5 j b h t v) = outRow (chunk s.main_v13_0 b h j) (chunk s.main_v13_3 b h j) (chunk s.main_v13_1 b h j)
      (chunk s.main_v13_2 b h j) (stateAt (chunk s.main_v13_3 b h) (chunk s.main_v13_1 b h) (chunk s.main_v13_2 b h) j.val) t v
  | 0, _, hj => absurd hj (Nat.not_lt_zero _)
  | n + 1, hn, hj => by
    have hlt : n < 64 := hn
    obtain ⟨e0, e1, e2, e3⟩ := trips_inputs s n
    show b80 (⟨n, hlt⟩ : Fin 64).val (trips s n) (ix5 j b h t v) = _
    rw [b80_apply]
    by_cases e : j = ⟨n, hlt⟩
    · subst e
      rw [if_pos rfl, b62_apply, trips_state s h0 b h n (Nat.le_of_lt hlt), e0, e1, e2, e3]
    · rw [if_neg e]
      exact trips_out h0 b h j t v n (Nat.le_of_lt hlt) (by have : j.val ≠ n := fun hc => e (Fin.ext hc); omega)

theorem result_apply (x4 : FVec Ideal S16x4096x512 .bf16) (x5 : FVec Ideal S1x512 .f32) (b : Fin 16) (n t : Fin 64) (h : Fin 4) (v : Fin 128) :
    R_main_v33 s x4 x5 (ix3 b ⟨64 * n.val + t.val, by omega⟩ ⟨128 * h.val + v.val, by omega⟩)
      = normRow (fun x => s.main_v13_6 (ix5 n b h t x)) (x5 (ix2 0 ⟨128 * h.val + v.val, by omega⟩))
          (x4 (ix3 b ⟨64 * n.val + t.val, by omega⟩ ⟨128 * h.val + v.val, by omega⟩)) v := by
  pointwise [R_main_v33]
  rfl
end

section
variable (x0 : FVec Ideal S16x4096x512 .bf16) (x1 : FVec Ideal S16x4096x512 .f32) (x2 x3 : FVec Ideal S16x4096x512 .bf16)

theorem at_comm {α : Type} (x : S16x4096x512.Idx → α) (b : Fin 16) (n t : Fin 64) (h : Fin 4) (d : Fin 128) :
    x (ix3 b ⟨n.val * 64 + t.val, by omega⟩ ⟨h.val * 128 + d.val, by omega⟩) =
      x (ix3 b ⟨64 * n.val + t.val, by omega⟩ ⟨128 * h.val + d.val, by omega⟩) := by
  simp only [Nat.mul_comm]

theorem chunk_q (b : Fin 16) (n t : Fin 64) (h : Fin 4) (d : Fin 128) :
    (A_main_v2 (F := Ideal) x0 x1 x2 x3 (ix5 n b h t d) : EReal) = x0 (ix3 b ⟨64 * n.val + t.val, by omega⟩ ⟨128 * h.val + d.val, by omega⟩) := by
  pointwise [A_main_v2, A_main_v1, A_main_v0]
  exact at_comm _ b n t h d
theorem chunk_k (b : Fin 16) (n t : Fin 64) (h : Fin 4) (d : Fin 128) :
    (A_main_v5 (F := Ideal) x0 x1 x2 x3 (ix5 n b h t d) : EReal) = x2 (ix3 b ⟨64 * n.val + t.val, by omega⟩ ⟨128 * h.val + d.val, by omega⟩) := by
  pointwise [A_main_v5, A_main_v4, A_main_v3]
  exact at_comm _ b n t h d
theorem chunk_v (b : Fin 16) (n t : Fin 64) (h : Fin 4) (d : Fin 128) :
    (A_main_v8 (F := Ideal) x0 x1 x2 x3 (ix5 n b h t d) : EReal) = x3 (ix3 b ⟨64 * n.val + t.val, by omega⟩ ⟨128 * h.val + d.val, by omega⟩) := by
  pointwise [A_main_v8, A_main_v7, A_main_v6]
  exact at_comm _ b n t h d
theorem chunk_g (b : Fin 16) (n t : Fin 64) (h : Fin 4) (d : Fin 128) :
    (A_main_v10 (F := Ideal) x0 x1 x2 x3 (ix5 n b h t d) : EReal) = x1 (ix3 b ⟨64 * n.val + t.val, by omega⟩ ⟨128 * h.val + d.val, by omega⟩) := by
  pointwise [A_main_v10, A_main_v9]
  exact at_comm _ b n t h d
end

end Cert.Hgrn
-- ==== Proof.Hgrn.Chunk.lean ====
module

public import proofs.«01_k».proof.Proof.Hgrn.Head
public import Idealize.ShloMosaic.Lib.Pointwise
public import Idealize.ShloMosaic.Lib.Pipeline.ValueKit

@[expose] public section

set_option maxRecDepth 65536

noncomputable section

/-! One head of one grid point, element by element. -/

namespace Cert.Hgrn

open Cert.KernelIdeal Cert.KernelIdeal.Gen Idealize.ShloMosaic Idealize.ShloMosaic.TcCoe

/-- Lane `d` of chunk `i`, token `t` of chunk `i`. -/
abbrev lane (i : Fin 16) (d : Fin 128) : Fin 2048 := ⟨128 * i.val + d.val, by omega⟩
abbrev tok (i : Fin 16) (t : Fin 64) : Fin 1024 := ⟨64 * i.val + t.val, by omega⟩

theorem laneChunk_apply {α : Type} (x : S64x2048.Idx → α) (i : Fin 16) (t : Fin 64) (d : Fin 128) :
    laneChunk x i (ix2 t d) = x (ix2 t (lane i d)) := by
  unfold laneChunk
  pointwise

/-- The tokens of chunk `i`. -/
def tokens {α : Type} (x : S1x1024x128.Idx → α) (i : Fin 16) : S64x128.Idx → α :=
  extractStridedSlice S64x128 ![64 * i.val, 0] (shapeCast S1024x128 x shapeCasts_S1x1024x128_S1024x128) (slice_tokens i)

theorem tokens_apply {α : Type} (x : S1x1024x128.Idx → α) (i : Fin 16) (t : Fin 64) (d : Fin 128) :
    tokens x i (ix2 t d) = x (ix3 0 (tok i t) d) := by
  unfold tokens
  pointwise

theorem lanes_eq {α : Type} (x : S1x1024x128.Idx → α) :
    lanes x = concatenate S64x2048 1 (List.ofFn fun i : Fin 16 => (⟨S64x128, tokens x i⟩ : (s : Shape) × (s.Idx → α)))
      concatenates_S64x128_S64x128_S64x128_S64x128_S64x128_S64x128_S64x128_S64x128_S64x128_S64x128_S64x128_S64x128_S64x128_S64x128_S64x128_S64x128_S64x2048_d1 := by
  sl_kernel_rfl

theorem lanes_apply {α : Type} (x : S1x1024x128.Idx → α) (i : Fin 16) (t : Fin 64) (d : Fin 128) :
    lanes x (ix2 t (lane i d)) = x (ix3 0 (tok i t) d) := by
  refine ((congrFun (lanes_eq x) _).trans (concatenate_ofFn_apply (t := S64x2048) 1 (tokens x) _ rfl 128 rfl _ i ?_ (ix2 t d) ?_ ?_)).trans (tokens_apply x i t d)
  · show (128 * i.val + d.val) / 128 = i.val
    omega
  · show d.val = (128 * i.val + d.val) % 128
    omega
  · intro b hb
    fin_cases b
    · rfl
    · exact absurd rfl hb

variable (H : Head Ideal) (lev : IVec S64x64 32)

/-! The head's tokens by chunk, and the row and lane of its decays. -/
namespace Head
abbrev Q (i : Fin 16) (t : Fin 64) (d : Fin 128) : EReal := H.q (ix3 0 (tok i t) d)
abbrev G (i : Fin 16) (t : Fin 64) (d : Fin 128) : EReal := H.g (ix3 0 (tok i t) d)
abbrev K (i : Fin 16) (t : Fin 64) (d : Fin 128) : EReal := H.k (ix3 0 (tok i t) d)
abbrev V (i : Fin 16) (t : Fin 64) (d : Fin 128) : EReal := H.v (ix3 0 (tok i t) d)
abbrev E (b : Fin 7) (i : Fin 16) (t : Fin 64) (d : Fin 128) : EReal := Ideal.exp (H.sums b (ix3 0 t (lane i d)))
end Head

theorem decay_apply (b : Fin 7) (i : Fin 16) (t : Fin 64) (d : Fin 128) : H.decay b (ix2 t (lane i d)) = H.E b i t d := by
  unfold Head.decay
  pointwise

theorem mulDecay_apply (x : FVec Ideal S64x2048 .bf16) (b : Fin 7) (i : Fin 16) (t : Fin 64) (d : Fin 128) :
    laneChunk (mulf x (H.decayR b)) i (ix2 t d) = x (ix2 t (lane i d)) * H.E b i t d := by
  rw [laneChunk_apply, ← decay_apply]
  unfold Head.decayR
  pointwise

theorem q0_apply (i : Fin 16) (t : Fin 64) (d : Fin 128) : H.q0 (ix2 t (lane i d)) = H.Q i t d * Ideal.exp (H.G i t d) := by
  unfold Head.q0
  pointwise
  rw [lanes_apply, lanes_apply]

theorem select_eq (a l : BitVec 32) (x y : EReal) : Scalar.select (IntOp.cmpi .eq a l) x y = if a = l then x else y := by
  by_cases h : a = l
  · subst h
    rw [if_pos rfl]
    exact if_pos (by show BitVec.ofBool (a == a) = 1#1; rw [beq_self_eq_true]; rfl)
  · rw [if_neg h]
    exact if_neg (by show ¬BitVec.ofBool (a == l) = 1#1; rw [beq_eq_false_iff_ne.2 h]; decide)

theorem base_apply (i : Fin 16) (t s : Fin 64) : H.base lev i (ix2 t s) =
    if lev (ix2 t s) = 0#32 then ∑ d, H.Q i t d * H.K i s d
    else if lev (ix2 t s) = 1#32 then ∑ d, H.Q i t d * Ideal.exp (H.G i t d) * H.K i s d else 0 := by
  unfold Head.base Head.both
  pointwise
  simp only [laneChunk_apply, lanes_apply, q0_apply, select_eq]

theorem levelDot_apply (b : Fin 7) (i : Fin 16) (t s : Fin 64) : H.levelDot b i (ix2 t s) =
    ∑ d : Fin 128, (H.Q i t d * H.E b i t d) * (H.K i s d * H.E b i s d) := by
  unfold Head.levelDot
  pointwise
  simp only [mulDecay_apply, lanes_apply]

theorem level_apply (b : Fin 7) (l : BitVec 32) (i : Fin 16) (x : FVec Ideal S64x64 .f32) (t s : Fin 64) : H.level lev b l i x (ix2 t s) =
    if lev (ix2 t s) = l then ∑ d : Fin 128, (H.Q i t d * H.E b i t d) * (H.K i s d * H.E b i s d) else x (ix2 t s) := by
  rw [← levelDot_apply]
  unfold Head.level
  pointwise
  rw [select_eq]

theorem update_apply (i : Fin 16) (v k : Fin 128) : H.update i (ix2 v k) = ∑ s, H.V i s v * (H.K i s k * H.E 6 i s k) := by
  unfold Head.update Head.vChunk
  pointwise
  simp only [mulDecay_apply, lanes_apply]

theorem next_apply (i : Fin 16) (st : FVec Ideal S128x128 .f32) (v k : Fin 128) : H.next i st (ix2 v k) =
    st (ix2 v k) * H.E 5 i 63 k + ∑ s, H.V i s v * (H.K i s k * H.E 6 i s k) := by
  rw [← update_apply]
  unfold Head.next
  pointwise
  rw [laneChunk_apply, decay_apply]

theorem mix_apply (i : Fin 16) (t : Fin 64) (v : Fin 128) : H.mix lev i (ix2 t v) =
    ∑ s, H.scores lev i (ix2 t s) * H.V i s v + ∑ d, (H.Q i t d * H.E 5 i t d) * H.state i.val i.isLt.le (ix2 v d) := by
  unfold Head.mix Head.vChunk
  pointwise
  simp only [mulDecay_apply, lanes_apply]

theorem normed_apply (ng : Vec Ideal S1x128 .f32) (og : Vec Ideal S1x64x128 .bf16) (o : FVec Ideal S64x128 .f32) (t : Fin 64) (v : Fin 128) :
    normed ng og o (ix3 0 t v) = o (ix2 t v) *
      Ideal.rsqrt (Ideal.div (∑ x, o (ix2 t x) * o (ix2 t x)) (Ideal.ofBits FTy.f32 1124073472#32) + Ideal.ofBits FTy.f32 897988541#32) *
        ng (ix2 0 v) * og (ix3 0 t v) := by
  unfold normed
  pointwise

theorem stateOut_apply (v k : Fin 128) : H.stateOut (ix3 0 v k) = H.state 16 le_rfl (ix2 v k) := by
  unfold Head.stateOut
  pointwise

theorem state_zero (v k : Fin 128) : H.state 0 (Nat.zero_le _) (ix2 v k) = H.st (ix3 0 v k) := by
  unfold Head.state
  pointwise

theorem state_succ (n : ℕ) (h : n + 1 ≤ 16) (v k : Fin 128) : H.state (n + 1) h (ix2 v k) =
    H.state n (Nat.le_of_succ_le h) (ix2 v k) * H.E 5 ⟨n, h⟩ 63 k + ∑ s, H.V ⟨n, h⟩ s v * (H.K ⟨n, h⟩ s k * H.E 6 ⟨n, h⟩ s k) :=
  next_apply H ⟨n, h⟩ _ v k

end Cert.Hgrn
-- ==== Proof.Hgrn.Literal.lean ====
module

public import proofs.«01_k».proof.Proof.Hgrn.Levels

@[expose] public section

set_option maxRecDepth 65536

noncomputable section

/-! The 0-1 matrix, read: its row `64 b + t` marks the tokens of `inRange b t`. -/

namespace Cert.Hgrn

open Cert.KernelIdeal Cert.KernelIdeal.Gen Idealize.ShloMosaic Idealize.ShloMosaic.TcCoe

/-- Row `t` of block `b` of the matrix is as `inRange` says. -/
def RowOk (b : Fin 7) (t j : Fin 64) : Prop :=
  lit0 (⟨(64 * b.val + t.val) * 192 + j.val, by show _ < 86016; omega⟩ : Fin S448x192.numel) = if inRange b t j then 0x3F80#16 else 0x0000#16

instance (b : Fin 7) (t j : Fin 64) : Decidable (RowOk b t j) := by unfold RowOk; infer_instance

theorem rows0 : ∀ t j : Fin 64, RowOk 0 t j := by decide +kernel
theorem rows1 : ∀ t j : Fin 64, RowOk 1 t j := by decide +kernel
theorem rows2 : ∀ t j : Fin 64, RowOk 2 t j := by decide +kernel
theorem rows3 : ∀ t j : Fin 64, RowOk 3 t j := by decide +kernel
theorem rows4 : ∀ t j : Fin 64, RowOk 4 t j := by decide +kernel
theorem rows5 : ∀ t j : Fin 64, RowOk 5 t j := by decide +kernel
theorem rows6 : ∀ t j : Fin 64, RowOk 6 t j := by decide +kernel

theorem lit_eq (b : Fin 7) (t j : Fin 64) : RowOk b t j := by
  fin_cases b
  exacts [rows0 t j, rows1 t j, rows2 t j, rows3 t j, rows4 t j, rows5 t j, rows6 t j]

end Cert.Hgrn
-- ==== Proof.Hgrn.Sums.lean ====
module

public import proofs.«01_k».proof.Proof.Hgrn.Pieces
public import proofs.«01_k».proof.Proof.Hgrn.Chunk
public import proofs.«01_k».proof.Proof.Hgrn.Rows
public import proofs.«01_k».proof.Proof.Hgrn.Literal

@[expose] public section

set_option maxRecDepth 65536

noncomputable section

/-! The decay sums a grid point stores, element by element. -/

namespace Cert.Hgrn

open Cert.KernelIdeal Cert.KernelIdeal.Gen Idealize.ShloMosaic Idealize.ShloMosaic.TcCoe

/-- The products of the 0-1 matrix with the decays in three parts. -/
def sumsVec (w : FVec Ideal S448x192 .bf16) (x : FVec Ideal S64x2048 .f32) : FVec Ideal S1x448x2048 .f32 :=
  shapeCast S1x448x2048 (matmul dot_S448x192_S192x2048_S448x2048_1_0_0_1_n_n none w
    (concatenate S192x2048 0 [⟨S64x2048, truncf .bf16 x bitsLt_bf16_f32⟩,
      ⟨S64x2048, truncf .bf16 (subf x (extf .f32 (truncf .bf16 x bitsLt_bf16_f32) bitsLt_bf16_f32)) bitsLt_bf16_f32⟩,
      ⟨S64x2048, truncf .bf16 (subf (subf x (extf .f32 (truncf .bf16 x bitsLt_bf16_f32) bitsLt_bf16_f32))
        (extf .f32 (truncf .bf16 (subf x (extf .f32 (truncf .bf16 x bitsLt_bf16_f32) bitsLt_bf16_f32)) bitsLt_bf16_f32) bitsLt_bf16_f32)) bitsLt_bf16_f32⟩]
      concatenates_S64x2048_S64x2048_S64x2048_S192x2048_d0)
    (constant S448x2048 .f32 0x00000000#32)) shapeCasts_S448x2048_S1x448x2048

theorem sums_eq (g : FVec Ideal S1x1024x128 .f32) (w : FVec Ideal S448x192 .bf16) : k0_pay13 g w = sumsVec w (lanes g) := by
  sl_kernel_rfl

theorem sum_first (F : Fin 192 → EReal) (h : ∀ y, 64 ≤ y.val → F y = 0) : ∑ y, F y = ∑ j : Fin 64, F (j.castLE (by decide)) := by
  refine (Fin.sum_univ_add (a := 64) (b := 128) F).trans ?_
  rw [Finset.sum_eq_zero (s := Finset.univ) (f := fun i : Fin 128 => F (Fin.natAdd 64 i)) (fun i _ => h _ (Nat.le_add_right 64 _)), add_zero]
  rfl

theorem sumsVec_apply (w : FVec Ideal S448x192 .bf16) (x : FVec Ideal S64x2048 .f32) (r : Fin 448) (l : Fin 2048) (f : Fin 64 → ℝ)
    (hf : ∀ j : Fin 64, x (ix2 j l) = (f j : EReal)) :
    sumsVec w x (ix3 0 r l) = ∑ j : Fin 64, w (ix2 r (j.castLE (by decide))) * x (ix2 j l) := by
  unfold sumsVec
  pointwise
  refine (sum_first _ fun y hy => ?_).trans (Finset.sum_congr rfl fun j _ => ?_)
  · have e : ∀ j, x (ix2 j l) - x (ix2 j l) = 0 := fun j => by rw [hf, ← EReal.coe_sub, sub_self, EReal.coe_zero]
    refine (congrArg (w (ix2 r y) * ·) ((dif_neg (Nat.not_lt.2 hy)).trans ?_)).trans (mul_zero _)
    by_cases h : y.val - 64 < 64
    · exact (dif_pos h).trans (e _)
    · exact (dif_neg h).trans ((congrArg₂ (· - ·) (e _) (e _)).trans (sub_zero 0))
  · exact congrArg (w (ix2 r (j.castLE (by decide))) * ·) (dif_pos j.isLt)

section
variable (arg3 : Memref sig .tc .vmem S448x192 .bf16) (harg3 : arg3.IsWhole) (arg5 : Memref sig .tc .vmem S1x1024x512 .f32) (harg5 : arg5.IsWhole)
  (x0 : Vec Ideal S448x192 .bf16) (x2 : Vec Ideal S1x1024x512 .f32)

theorem sumPieces_apply (n : ℕ) (hn : n ≤ 4) (h : Fin 4) (hh : h.val < n) (r : Fin 448) (l : Fin 2048) :
    View.canon (sumPieces arg3 harg3 arg5 harg5 x0 x2 n hn) (ix3 h r l) = sumsOf arg3 harg3 arg5 harg5 x0 x2 h (ix3 0 r l) := by
  induction n with
  | zero => exact absurd hh (Nat.not_lt_zero _)
  | succ n ih =>
    by_cases e : h.val = n
    · obtain rfl : h = ⟨n, hn⟩ := Fin.ext e
      have hi : (ix3 (⟨n, hn⟩ : Fin 4) r l : S4x448x2048.Idx) =
          (Rect.unit (s := S4x448x2048) ![n, 0, 0] S1x448x2048.size (inb_sums ⟨n, hn⟩)).emb (ix3 0 r l) := by
        funext a
        fin_cases a <;> apply Fin.ext
        · show n = n + 1 * 0; omega
        · show r.val = 0 + 1 * r.val; omega
        · show l.val = 0 + 1 * l.val; omega
      rw [hi]
      exact View.canon_cons_emb _ _ _ _
    · refine (View.canon_cons_of_not_mem _ _ ?_).trans (ih (Nat.le_of_succ_le hn) (by omega))
      rw [Rect.mem_set_unit]
      intro hc
      have := (hc 0).2
      have : n ≤ h.val := (hc 0).1
      have : h.val < n + 1 := (hc 0).2
      omega
end

/-- The 0-1 matrix as the program's constant. -/
def marks : FVec Ideal S448x192 .bf16 := fun i => FloatOps.ofBits .bf16 (lit0 (S448x192.rowMajor i))

theorem marks_apply (b : Fin 7) (t j : Fin 64) :
    marks (ix2 ⟨64 * b.val + t.val, by omega⟩ (j.castLE (by decide))) = if inRange b t j then 1 else 0 := by
  have h : marks (ix2 ⟨64 * b.val + t.val, by omega⟩ (j.castLE (by decide))) = FloatOps.ofBits (F := Ideal) .bf16
      (lit0 (⟨(64 * b.val + t.val) * 192 + j.val, by show _ < 86016; omega⟩ : Fin S448x192.numel)) := by
    unfold marks
    congr 2
    apply Fin.ext
    exact Shape.rowMajor_val_two _
  rw [h, lit_eq b t j]
  split_ifs
  · show Ideal.ofBits .bf16 0x3F80#16 = 1
    simp [Ideal.ofBits, Ideal.ieee, -EReal.coe_mul]; norm_num
  · show Ideal.ofBits .bf16 0x0000#16 = 0
    simp [Ideal.ofBits, Ideal.ieee, -EReal.coe_mul]

end Cert.Hgrn
-- ==== Proof.Hgrn.Values.lean ====
module

public import proofs.«01_k».proof.Proof.Hgrn.Chunk
public import proofs.«01_k».proof.Proof.Hgrn.Rows

@[expose] public section

set_option maxRecDepth 65536

noncomputable section

/-! A head of a grid point computes the gated recurrence by chunks, given that its decay sums are sums of its decays. -/

namespace Cert.Hgrn

open Cert.KernelIdeal Cert.KernelIdeal.Gen Idealize.ShloMosaic

/-- The head's decays are the real numbers `g`, and its decay sums are sums of them. -/
structure Sound (H : Head Ideal) (g : Fin 16 → Fin 64 → Fin 128 → ℝ) : Prop where
  decay : ∀ i t d, H.G i t d = lift (g i) t d
  sums : ∀ b i t d, H.sums b (ix3 0 t (lane i d)) = rangeSum (lift (g i)) b t d

variable (H : Head Ideal) (g : Fin 16 → Fin 64 → Fin 128 → ℝ) (hs : Sound H g)

/-- The head's state before chunk `n`, keys first. -/
def stateOfHead (n : ℕ) (hn : n ≤ 16) : Mat := fun k v => H.state n hn (ix2 v k)

include hs

theorem state_next (n : ℕ) (hn : n + 1 ≤ 16) : stateOfHead H (n + 1) hn =
    nextState (lift (g ⟨n, hn⟩)) (H.K ⟨n, hn⟩) (H.V ⟨n, hn⟩) (stateOfHead H n (Nat.le_of_succ_le hn)) := by
  funext k v
  rw [← next_eq]
  unfold stateOfHead
  rw [state_succ]
  simp only [Head.E, hs.sums]

/-- The states are those of the recurrence from chunk `16 q` on, if the state read is. -/
theorem state_at (q : Fin 4) (G K V : Fin 64 → Rows) (hG : ∀ i : Fin 16, G ⟨16 * q.val + i.val, by omega⟩ = lift (g i))
    (hK : ∀ i : Fin 16, K ⟨16 * q.val + i.val, by omega⟩ = H.K i) (hV : ∀ i : Fin 16, V ⟨16 * q.val + i.val, by omega⟩ = H.V i)
    (h0 : (fun k v => H.st (ix3 0 v k)) = stateAt G K V (16 * q.val)) : ∀ n hn, stateOfHead H n hn = stateAt G K V (16 * q.val + n)
  | 0, _ => by
    rw [Nat.add_zero, ← h0]
    funext k v
    exact state_zero H v k
  | n + 1, hn => by
    rw [state_next H g hs n hn, state_at q G K V hG hK hV h0 n, ← Nat.add_assoc, stateAt,
      dif_pos (by omega : 16 * q.val + n < 64), hG ⟨n, hn⟩, hK ⟨n, hn⟩, hV ⟨n, hn⟩]

theorem scores_apply (i : Fin 16) (t u : Fin 64) : H.scores levels i (ix2 t u) = score (H.Q i) (lift (g i)) (H.K i) t u := by
  rw [← scores_eq]
  unfold Head.scores
  rw [level_apply, level_apply, level_apply, level_apply, level_apply, base_apply, levels_apply]
  simp only [Head.E, hs.sums, hs.decay]
  rfl

theorem mix_row (i : Fin 16) (t : Fin 64) (v : Fin 128) : H.mix levels i (ix2 t v) =
    outRow (H.Q i) (lift (g i)) (H.K i) (H.V i) (stateOfHead H i.val i.isLt.le) t v := by
  rw [mix_apply]
  simp only [scores_apply H g hs, Head.E, hs.sums, range_upTo]
  rfl

theorem out_row (og : Vec Ideal S1x64x128 .bf16) (i : Fin 16) (t : Fin 64) (v : Fin 128) : H.out levels og i (ix3 0 t v) =
    normRow (outRow (H.Q i) (lift (g i)) (H.K i) (H.V i) (stateOfHead H i.val i.isLt.le) t) (H.ng (ix2 0 v)) (og (ix3 0 t v)) v := by
  unfold Head.out
  rw [normed_apply]
  simp only [mix_row H g hs]
  rfl

end Cert.Hgrn
-- ==== Proof.Hgrn.Point.lean ====
module

public import proofs.«01_k».proof.Proof.Hgrn.Sums
public import proofs.«01_k».proof.Proof.Hgrn.Values
public import Idealize.ShloMosaic.Lib.WholeRead

@[expose] public section

set_option maxRecDepth 65536

noncomputable section

/-! What one grid point reads and stores, element by element. -/

namespace Cert.Hgrn

open Cert.KernelIdeal Cert.KernelIdeal.Gen Idealize.ShloMosaic Idealize.ShloMosaic.TcCoe

/-- Lane `d` of head `h`. -/
abbrev hlane (h : Fin 4) (d : Fin 128) : Fin 512 := ⟨128 * h.val + d.val, by omega⟩

/-- Chunk `i` of head `h` of a block of tokens. -/
def blk (x : S1x1024x512.Idx → EReal) (h : Fin 4) (i : Fin 16) : Rows := fun t d => x (ix3 0 (tok i t) (hlane h d))

section
variable (arg3 : Memref sig .tc .vmem S448x192 .bf16) (harg3 : arg3.IsWhole) (arg4 : Memref sig .tc .vmem S1x1024x512 .bf16) (harg4 : arg4.IsWhole)
  (arg5 : Memref sig .tc .vmem S1x1024x512 .f32) (harg5 : arg5.IsWhole) (arg6 : Memref sig .tc .vmem S1x1024x512 .bf16) (harg6 : arg6.IsWhole)
  (arg7 : Memref sig .tc .vmem S1x1024x512 .bf16) (harg7 : arg7.IsWhole) (arg8 : Memref sig .tc .vmem S1x1024x512 .bf16) (harg8 : arg8.IsWhole)
  (arg9 : Memref sig .tc .vmem S1x512 .f32) (harg9 : arg9.IsWhole) (arg11 : Memref sig .tc .vmem S4x128x128 .f32) (harg11 : arg11.IsWhole)
  (arg12 : Memref sig .tc .vmem S4x448x2048 .f32)
  (x0 : Vec Ideal S448x192 .bf16) (x1 : Vec Ideal S1x1024x512 .bf16) (x2 : Vec Ideal S1x1024x512 .f32) (x3 : Vec Ideal S1x1024x512 .bf16)
  (x4 : Vec Ideal S1x1024x512 .bf16) (x5 : Vec Ideal S1x1024x512 .bf16) (x6 : Vec Ideal S1x512 .f32) (xs0 : Vec Ideal S4x128x128 .f32)

theorem read_tokens {e : EltTy} (arg : Memref sig .tc .vmem S1x1024x512 e) (harg : arg.IsWhole) (x : Vec Ideal S1x1024x512 e) (h : Fin 4)
    (r : Fin 1024) (d : Fin 128) :
    View.readAt (Elt Ideal) arg.view (Rect.unit (s := S1x1024x512) ![0, 0, 128 * h.val] S1x1024x128.size (inb_tokens h)).toLoadRect (harg.unread x)
      (ix3 0 r d) = x (ix3 0 r (hlane h d)) := by
  refine (harg.readAt_unread x _ _).trans (congrArg x ?_)
  funext a
  fin_cases a <;> apply Fin.ext
  · show 0 + 1 * 0 = 0; omega
  · show 0 + 1 * r.val = r.val; omega
  · show 128 * h.val + 1 * d.val = 128 * h.val + d.val; omega

theorem read_chunk (h : Fin 4) (i : Fin 16) (t : Fin 64) (d : Fin 128) :
    View.readAt (Elt Ideal) arg8.view (Rect.unit (s := S1x1024x512) ![0, 64 * i.val, 128 * h.val] S1x64x128.size (inb_chunk h i)).toLoadRect
      (harg8.unread x5) (ix3 0 t d) = x5 (ix3 0 (tok i t) (hlane h d)) := by
  refine (harg8.readAt_unread x5 _ _).trans (congrArg x5 ?_)
  funext a
  fin_cases a <;> apply Fin.ext
  · show 0 + 1 * 0 = 0; omega
  · show 64 * i.val + 1 * t.val = 64 * i.val + t.val; omega
  · show 128 * h.val + 1 * d.val = 128 * h.val + d.val; omega

theorem read_gain (h : Fin 4) (d : Fin 128) :
    View.readAt (Elt Ideal) arg9.view (Rect.unit (s := S1x512) ![0, 128 * h.val] S1x128.size (inb_gain h)).toLoadRect (harg9.unread x6) (ix2 0 d)
      = x6 (ix2 0 (hlane h d)) := by
  refine (harg9.readAt_unread x6 _ _).trans (congrArg x6 ?_)
  funext a
  fin_cases a <;> apply Fin.ext
  · show 0 + 1 * 0 = 0; omega
  · show 128 * h.val + 1 * d.val = 128 * h.val + d.val; omega

theorem read_marks : View.readAt (Elt Ideal) arg3.view (Rect.unit (s := S448x192) ![0, 0] S448x192.size inb_S448x192_S448x192_0_0).toLoadRect
    (harg3.unread x0) = x0 := by
  funext y
  refine (harg3.readAt_unread x0 _ _).trans (congrArg x0 ?_)
  funext a
  fin_cases a <;> apply Fin.ext
  · show 0 + 1 * (y 0).val = (y 0).val; omega
  · show 0 + 1 * (y 1).val = (y 1).val; omega

theorem stB_apply (h : Fin 4) (v k : Fin 128) : stB arg11 harg11 xs0 h (ix3 0 v k) = xs0 (ix3 h v k) := by
  refine (harg11.readAt_unread xs0 _ _).trans (congrArg xs0 ?_)
  funext a
  fin_cases a <;> apply Fin.ext
  · show h.val + 1 * 0 = h.val; omega
  · show 0 + 1 * v.val = v.val; omega
  · show 0 + 1 * k.val = k.val; omega

theorem state_emb (h : Fin 4) (v k : Fin 128) : (ix3 h v k : S4x128x128.Idx) =
    (Rect.unit (s := S4x128x128) ![h.val, 0, 0] S1x128x128.size (inb_state h)).emb (ix3 0 v k) := by
  funext a
  fin_cases a <;> apply Fin.ext
  · show h.val = h.val + 1 * 0; omega
  · show v.val = 0 + 1 * v.val; omega
  · show k.val = 0 + 1 * k.val; omega

theorem stA_apply (L : List (View.Piece (Elt Ideal) S4x128x128 .f32)) (h : Fin 4) (v k : Fin 128) :
    stA arg11 L h (ix3 0 v k) = View.canon L (ix3 h v k) := by
  unfold stA
  rw [View.readCov_eq_canon']
  exact congrArg (View.canon L) (state_emb h v k).symm

/-- The decays of a head, from those of the block. -/
abbrev decays (g : Fin 1024 → Fin 512 → ℝ) (h : Fin 4) : Fin 16 → Fin 64 → Fin 128 → ℝ := fun i t d => g (tok i t) (hlane h d)

section
variable (g : Fin 1024 → Fin 512 → ℝ) (h0 : x0 = marks) (hg : ∀ r l, x2 (ix3 0 r l) = (g r l : EReal)) (h : Fin 4)
include h0 hg

theorem sumsOf_apply (b : Fin 7) (i : Fin 16) (t : Fin 64) (d : Fin 128) :
    sumsOf arg3 harg3 arg5 harg5 x0 x2 h (ix3 0 ⟨64 * b.val + t.val, by omega⟩ (lane i d)) = rangeSum (lift (decays g h i)) b t d := by
  unfold sumsOf
  have hx : ∀ j : Fin 64, lanes (View.readAt (Elt Ideal) arg5.view (Rect.unit (s := S1x1024x512) ![0, 0, 128 * h.val] S1x1024x128.size
      (inb_tokens h)).toLoadRect (harg5.unread x2)) (ix2 j (lane i d)) = (decays g h i j d : EReal) := fun j => by
    rw [lanes_apply, read_tokens, hg]
  rw [sums_eq, sumsVec_apply _ _ _ _ (fun j => decays g h i j d) hx, read_marks, h0]
  unfold rangeSum
  refine Finset.sum_congr rfl fun j _ => ?_
  rw [marks_apply, hx]
  split_ifs
  · rw [one_mul]
  · rw [zero_mul]

theorem head_sound (st : Vec Ideal S1x128x128 .f32) :
    Sound (headOf arg3 harg3 arg4 harg4 arg5 harg5 arg6 harg6 arg7 harg7 arg9 harg9 arg12 x0 x1 x2 x3 x4 x6 h st) (decays g h) where
  decay i t d := (read_tokens arg5 harg5 x2 h (tok i t) d).trans (hg _ _)
  sums b i t d := by
    rw [← sumsOf_apply arg3 harg3 arg5 harg5 x0 x2 g h0 hg h b i t d, ← sumPieces_apply arg3 harg3 arg5 harg5 x0 x2 4 le_rfl h h.isLt]
    show arg12.view.readCov _ _ _ = _
    rw [View.readCov_eq_canon']
    refine congrArg (View.canon _) ?_
    funext a
    fin_cases a <;> apply Fin.ext
    · show h.val + 1 * 0 = h.val; omega
    · show 64 * b.val + 1 * t.val = 64 * b.val + t.val; omega
    · show 0 + 1 * (128 * i.val + d.val) = 128 * i.val + d.val; omega
end

section
variable (L : List (View.Piece (Elt Ideal) S4x128x128 .f32)) (st : List (View.Piece (Elt Ideal) S4x128x128 .f32) → Fin 4 → Vec Ideal S1x128x128 .f32)

/-- A head whose state is not stored yet keeps what was there. -/
theorem statePieces_before (n : ℕ) (hn : n ≤ 4) (h : Fin 4) (hh : n ≤ h.val) (v k : Fin 128) :
    View.canon (statePieces arg3 harg3 arg4 harg4 arg5 harg5 arg6 harg6 arg7 harg7 arg9 harg9 arg12 x0 x1 x2 x3 x4 x6 L st n hn) (ix3 h v k)
      = View.canon L (ix3 h v k) := by
  induction n with
  | zero => rfl
  | succ n ih =>
    refine (View.canon_cons_of_not_mem _ _ ?_).trans (ih (Nat.le_of_succ_le hn) (by omega))
    rw [Rect.mem_set_unit]
    intro hc
    have : h.val < n + 1 := (hc 0).2
    omega

theorem statePieces_apply (n : ℕ) (hn : n ≤ 4) (h : Fin 4) (hh : h.val < n) (v k : Fin 128) :
    View.canon (statePieces arg3 harg3 arg4 harg4 arg5 harg5 arg6 harg6 arg7 harg7 arg9 harg9 arg12 x0 x1 x2 x3 x4 x6 L st n hn) (ix3 h v k)
      = (headOf arg3 harg3 arg4 harg4 arg5 harg5 arg6 harg6 arg7 harg7 arg9 harg9 arg12 x0 x1 x2 x3 x4 x6 h
        (st (statePieces arg3 harg3 arg4 harg4 arg5 harg5 arg6 harg6 arg7 harg7 arg9 harg9 arg12 x0 x1 x2 x3 x4 x6 L st h.val h.isLt.le) h)).stateOut
          (ix3 0 v k) := by
  induction n with
  | zero => exact absurd hh (Nat.not_lt_zero _)
  | succ n ih =>
    by_cases e : h.val = n
    · obtain rfl : h = ⟨n, hn⟩ := Fin.ext e
      rw [state_emb]
      exact View.canon_cons_emb _ _ _ _
    · refine (View.canon_cons_of_not_mem _ _ ?_).trans (ih (Nat.le_of_succ_le hn) (by omega))
      rw [Rect.mem_set_unit]
      intro hc
      have : n ≤ h.val := (hc 0).1
      omega
end

section
variable (lev : IVec S64x64 32) (H : Fin 4 → Head Ideal)

theorem chunk_emb (h : Fin 4) (i : Fin 16) (t : Fin 64) (v : Fin 128) : (ix3 0 (tok i t) (hlane h v) : S1x1024x512.Idx) =
    (Rect.unit (s := S1x1024x512) ![0, 64 * i.val, 128 * h.val] S1x64x128.size (inb_chunk h i)).emb (ix3 0 t v) := by
  funext a
  fin_cases a <;> apply Fin.ext
  · show 0 = 0 + 1 * 0; omega
  · show 64 * i.val + t.val = 64 * i.val + 1 * t.val; omega
  · show 128 * h.val + v.val = 128 * h.val + 1 * v.val; omega

theorem chunkPieces_other (h h' : Fin 4) (hne : h ≠ h') (K : Head Ideal) (L : List (View.Piece (Elt Ideal) S1x1024x512 .bf16)) (n : ℕ) (hn : n ≤ 16)
    (r : Fin 1024) (v : Fin 128) :
    View.canon (chunkPieces arg8 harg8 x5 lev h' K L n hn) (ix3 0 r (hlane h v)) = View.canon L (ix3 0 r (hlane h v)) := by
  induction n with
  | zero => rfl
  | succ n ih =>
    refine (View.canon_cons_of_not_mem _ _ ?_).trans (ih (Nat.le_of_succ_le hn))
    rw [Rect.mem_set_unit]
    intro hc
    have h1 : 128 * h'.val ≤ 128 * h.val + v.val := (hc 2).1
    have h2 : 128 * h.val + v.val < 128 * h'.val + 128 := (hc 2).2
    exact hne (Fin.ext (by omega))

theorem chunkPieces_apply (h : Fin 4) (K : Head Ideal) (L : List (View.Piece (Elt Ideal) S1x1024x512 .bf16)) (n : ℕ) (hn : n ≤ 16)
    (i : Fin 16) (hi : i.val < n) (t : Fin 64) (v : Fin 128) :
    View.canon (chunkPieces arg8 harg8 x5 lev h K L n hn) (ix3 0 (tok i t) (hlane h v)) =
      K.out lev (View.readAt (Elt Ideal) arg8.view (Rect.unit (s := S1x1024x512) ![0, 64 * i.val, 128 * h.val] S1x64x128.size
        (inb_chunk h i)).toLoadRect (harg8.unread x5)) i (ix3 0 t v) := by
  induction n with
  | zero => exact absurd hi (Nat.not_lt_zero _)
  | succ n ih =>
    by_cases e : i.val = n
    · obtain rfl : i = ⟨n, hn⟩ := Fin.ext e
      rw [chunk_emb]
      exact View.canon_cons_emb _ _ _ _
    · refine (View.canon_cons_of_not_mem _ _ ?_).trans (ih (Nat.le_of_succ_le hn) (by omega))
      rw [Rect.mem_set_unit]
      intro hc
      have : 64 * n ≤ 64 * i.val + t.val := (hc 1).1
      omega

theorem outPieces_apply (n : ℕ) (hn : n ≤ 4) (h : Fin 4) (hh : h.val < n) (i : Fin 16) (t : Fin 64) (v : Fin 128) :
    View.canon (outPieces arg8 harg8 x5 lev H n hn) (ix3 0 (tok i t) (hlane h v)) =
      (H h).out lev (View.readAt (Elt Ideal) arg8.view (Rect.unit (s := S1x1024x512) ![0, 64 * i.val, 128 * h.val] S1x64x128.size
        (inb_chunk h i)).toLoadRect (harg8.unread x5)) i (ix3 0 t v) := by
  induction n with
  | zero => exact absurd hh (Nat.not_lt_zero _)
  | succ n ih =>
    by_cases e : h.val = n
    · obtain rfl : h = ⟨n, hn⟩ := Fin.ext e
      exact chunkPieces_apply arg8 harg8 x5 lev ⟨n, hn⟩ _ _ 16 le_rfl i i.isLt t v
    · exact (chunkPieces_other arg8 harg8 x5 lev h ⟨n, hn⟩ (fun hc => e (congrArg Fin.val hc)) _ _ 16 le_rfl (tok i t) v).trans
        (ih (Nat.le_of_succ_le hn) (by omega))
end

theorem reset_apply (h : Fin 4) (v k : Fin 128) : View.canon (resetPieces (F := Ideal)) (ix3 h v k) = 0 := by
  have e : (ix3 h v k : S4x128x128.Idx) =
      (Rect.unit (s := S4x128x128) ![0, 0, 0] S4x128x128.size inb_S4x128x128_S4x128x128_0_0_0).emb (ix3 h v k) := by
    funext a
    fin_cases a <;> apply Fin.ext
    · show h.val = 0 + 1 * h.val; omega
    · show v.val = 0 + 1 * v.val; omega
    · show k.val = 0 + 1 * k.val; omega
  unfold resetPieces
  rw [e, View.canon_cons_emb]
  show Ideal.ofBits FTy.f32 0x00000000#32 = 0
  simp [Ideal.ofBits, Ideal.ieee, -EReal.coe_mul]

end

end Cert.Hgrn
-- ==== Proof.Hgrn.Result.lean ====
module

public import proofs.«01_k».proof.Proof.Hgrn.Point

@[expose] public section

set_option maxRecDepth 65536

noncomputable section

/-! What one grid point leaves, as the recurrence of its batch row: its tokens are chunks `16 q` to `16 q + 15`. -/

namespace Cert.Hgrn

open Cert.KernelIdeal Cert.KernelIdeal.Gen Idealize.ShloMosaic Idealize.ShloMosaic.TcCoe

/-- Chunk `i` of block `q`. -/
abbrev cidx (q : Fin 4) (i : Fin 16) : Fin 64 := ⟨16 * q.val + i.val, by omega⟩

section
variable (arg3 : Memref sig .tc .vmem S448x192 .bf16) (harg3 : arg3.IsWhole) (arg4 : Memref sig .tc .vmem S1x1024x512 .bf16) (harg4 : arg4.IsWhole)
  (arg5 : Memref sig .tc .vmem S1x1024x512 .f32) (harg5 : arg5.IsWhole) (arg6 : Memref sig .tc .vmem S1x1024x512 .bf16) (harg6 : arg6.IsWhole)
  (arg7 : Memref sig .tc .vmem S1x1024x512 .bf16) (harg7 : arg7.IsWhole) (arg8 : Memref sig .tc .vmem S1x1024x512 .bf16) (harg8 : arg8.IsWhole)
  (arg9 : Memref sig .tc .vmem S1x512 .f32) (harg9 : arg9.IsWhole) (arg10 : Memref sig .tc .vmem S1x1024x512 .bf16) (harg10 : arg10.IsWhole)
  (arg11 : Memref sig .tc .vmem S4x128x128 .f32) (harg11 : arg11.IsWhole) (arg12 : Memref sig .tc .vmem S4x448x2048 .f32) (harg12 : arg12.IsWhole)
  (x0 : Vec Ideal S448x192 .bf16) (x1 : Vec Ideal S1x1024x512 .bf16) (x2 : Vec Ideal S1x1024x512 .f32) (x3 : Vec Ideal S1x1024x512 .bf16)
  (x4 : Vec Ideal S1x1024x512 .bf16) (x5 : Vec Ideal S1x1024x512 .bf16) (x6 : Vec Ideal S1x512 .f32) (xs0 : Vec Ideal S4x128x128 .f32)
  (q : Fin 4) (g : Fin 1024 → Fin 512 → ℝ) (G K U : Fin 4 → Fin 64 → Rows)

/-- The blocks are those of the sequences `G`, `K`, `U` of each head. -/
structure Inputs : Prop where
  marks : x0 = Hgrn.marks
  real : ∀ r l, x2 (ix3 0 r l) = (g r l : EReal)
  g : ∀ h i, G h (cidx q i) = lift (decays g h i)
  k : ∀ h i, K h (cidx q i) = blk x3 h i
  v : ∀ h i, U h (cidx q i) = blk x4 h i

variable (hin : Inputs x0 x2 x3 x4 q g G K U)
include hin

theorem head_state (h : Fin 4) (st : Vec Ideal S1x128x128 .f32) (hst : (fun k v => st (ix3 0 v k)) = stateAt (G h) (K h) (U h) (16 * q.val))
    (n : ℕ) (hn : n ≤ 16) :
    stateOfHead (headOf arg3 harg3 arg4 harg4 arg5 harg5 arg6 harg6 arg7 harg7 arg9 harg9 arg12 x0 x1 x2 x3 x4 x6 h st) n hn
      = stateAt (G h) (K h) (U h) (16 * q.val + n) := by
  refine state_at _ (decays g h) (head_sound arg3 harg3 arg4 harg4 arg5 harg5 arg6 harg6 arg7 harg7 arg9 harg9 arg12 x0 x1 x2 x3 x4 x6 g
    hin.marks hin.real h st) q (G h) (K h) (U h) (hin.g h) (fun i => (hin.k h i).trans ?_) (fun i => (hin.v h i).trans ?_) hst n hn
  · funext t d
    exact (read_tokens arg6 harg6 x3 h (tok i t) d).symm
  · funext t d
    exact (read_tokens arg7 harg7 x4 h (tok i t) d).symm

theorem head_out (h : Fin 4) (st : Vec Ideal S1x128x128 .f32) (hst : (fun k v => st (ix3 0 v k)) = stateAt (G h) (K h) (U h) (16 * q.val))
    (i : Fin 16) (t : Fin 64) (v : Fin 128) :
    (headOf arg3 harg3 arg4 harg4 arg5 harg5 arg6 harg6 arg7 harg7 arg9 harg9 arg12 x0 x1 x2 x3 x4 x6 h st).out levels
      (View.readAt (Elt Ideal) arg8.view (Rect.unit (s := S1x1024x512) ![0, 64 * i.val, 128 * h.val] S1x64x128.size
        (inb_chunk h i)).toLoadRect (harg8.unread x5)) i (ix3 0 t v) =
      normRow (outRow (blk x1 h i) (G h (cidx q i)) (K h (cidx q i)) (U h (cidx q i)) (stateAt (G h) (K h) (U h) (16 * q.val + i.val)) t)
        (x6 (ix2 0 (hlane h v))) (x5 (ix3 0 (tok i t) (hlane h v))) v := by
  rw [out_row _ (decays g h) (head_sound arg3 harg3 arg4 harg4 arg5 harg5 arg6 harg6 arg7 harg7 arg9 harg9 arg12 x0 x1 x2 x3 x4 x6 g
    hin.marks hin.real h st), head_state arg3 harg3 arg4 harg4 arg5 harg5 arg6 harg6 arg7 harg7 arg9 harg9 arg12 x0 x1 x2 x3 x4 x6 q g G K U hin h st hst,
    read_chunk, hin.g, hin.k, hin.v]
  have eq : (headOf arg3 harg3 arg4 harg4 arg5 harg5 arg6 harg6 arg7 harg7 arg9 harg9 arg12 x0 x1 x2 x3 x4 x6 h st).Q i = blk x1 h i := by
    funext t d
    exact read_tokens arg4 harg4 x1 h (tok i t) d
  have ek : (headOf arg3 harg3 arg4 harg4 arg5 harg5 arg6 harg6 arg7 harg7 arg9 harg9 arg12 x0 x1 x2 x3 x4 x6 h st).K i = blk x3 h i := by
    funext t d
    exact read_tokens arg6 harg6 x3 h (tok i t) d
  have ev : (headOf arg3 harg3 arg4 harg4 arg5 harg5 arg6 harg6 arg7 harg7 arg9 harg9 arg12 x0 x1 x2 x3 x4 x6 h st).V i = blk x4 h i := by
    funext t d
    exact read_tokens arg7 harg7 x4 h (tok i t) d
  have en : (headOf arg3 harg3 arg4 harg4 arg5 harg5 arg6 harg6 arg7 harg7 arg9 harg9 arg12 x0 x1 x2 x3 x4 x6 h st).ng (ix2 0 v)
      = x6 (ix2 0 (hlane h v)) := read_gain arg9 harg9 x6 h v
  rw [eq, ek, ev, en]

variable (c : Dev nD) (i : grid0.Coords)

theorem reset_state (hq : q.val = 0) (h : Fin 4) : (fun k v => stA arg11 (statePieces arg3 harg3 arg4 harg4 arg5 harg5 arg6 harg6 arg7 harg7 arg9 harg9
    arg12 x0 x1 x2 x3 x4 x6 resetPieces (stA arg11) h.val h.isLt.le) h (ix3 0 v k)) = stateAt (G h) (K h) (U h) (16 * q.val) := by
  funext k v
  rw [stA_apply, statePieces_before (hh := le_rfl), reset_apply, hq]
  rfl

theorem keep_state (hst : ∀ h v k, xs0 (ix3 h v k) = stateAt (G h) (K h) (U h) (16 * q.val) k v) (h : Fin 4) :
    (fun k v => stB arg11 harg11 xs0 h (ix3 0 v k)) = stateAt (G h) (K h) (U h) (16 * q.val) := by
  funext k v
  rw [stB_apply, hst]

theorem state_A (hc0 : cond0_0 i) (hq : q.val = 0) (h : Fin 4) (v k : Fin 128) :
    sout0_A_0 c i arg3 harg3 arg4 harg4 arg5 harg5 arg6 harg6 arg7 harg7 arg8 harg8 arg9 harg9 arg10 harg10 arg11 harg11 arg12 harg12
      hc0 x0 x1 x2 x3 x4 x5 x6 (ix3 h v k) = stateAt (G h) (K h) (U h) (16 * q.val + 16) k v := by
  unfold sout0_A_0
  rw [View.read_writes_junk_eq_canon, statePieces_A, statePieces_apply (hh := h.isLt), stateOut_apply]
  exact congrFun (congrFun (head_state arg3 harg3 arg4 harg4 arg5 harg5 arg6 harg6 arg7 harg7 arg9 harg9 arg12 x0 x1 x2 x3 x4 x6 q g G K U hin h _
    (reset_state arg3 harg3 arg4 harg4 arg5 harg5 arg6 harg6 arg7 harg7 arg9 harg9 arg11 arg12 x0 x1 x2 x3 x4 x6 q g G K U hin hq h) 16 le_rfl) k) v

theorem state_B (hc0 : ¬ cond0_0 i) (hst : ∀ h v k, xs0 (ix3 h v k) = stateAt (G h) (K h) (U h) (16 * q.val) k v) (h : Fin 4) (v k : Fin 128) :
    sout0_B_0 c i arg3 harg3 arg4 harg4 arg5 harg5 arg6 harg6 arg7 harg7 arg8 harg8 arg9 harg9 arg10 harg10 arg11 harg11 arg12 harg12
      hc0 x0 x1 x2 x3 x4 x5 x6 xs0 (ix3 h v k) = stateAt (G h) (K h) (U h) (16 * q.val + 16) k v := by
  unfold sout0_B_0
  rw [View.read_writes_junk_eq_canon, statePieces_B, statePieces_apply (hh := h.isLt), stateOut_apply]
  exact congrFun (congrFun (head_state arg3 harg3 arg4 harg4 arg5 harg5 arg6 harg6 arg7 harg7 arg9 harg9 arg12 x0 x1 x2 x3 x4 x6 q g G K U hin h _
    (keep_state arg11 harg11 x0 x2 x3 x4 xs0 q g G K U hin hst h) 16 le_rfl) k) v

theorem out_A (hc0 : cond0_0 i) (hq : q.val = 0) (h : Fin 4) (j : Fin 16) (t : Fin 64) (v : Fin 128) :
    out0_A_7 c i arg3 harg3 arg4 harg4 arg5 harg5 arg6 harg6 arg7 harg7 arg8 harg8 arg9 harg9 arg10 harg10 arg11 harg11 arg12 harg12
      hc0 x0 x1 x2 x3 x4 x5 x6 (ix3 0 (tok j t) (hlane h v)) =
      normRow (outRow (blk x1 h j) (G h (cidx q j)) (K h (cidx q j)) (U h (cidx q j)) (stateAt (G h) (K h) (U h) (16 * q.val + j.val)) t)
        (x6 (ix2 0 (hlane h v))) (x5 (ix3 0 (tok j t) (hlane h v))) v := by
  unfold out0_A_7
  rw [View.read_writes_junk_eq_canon, outPieces_A, outPieces_apply (hh := h.isLt)]
  exact head_out arg3 harg3 arg4 harg4 arg5 harg5 arg6 harg6 arg7 harg7 arg8 harg8 arg9 harg9 arg12 x0 x1 x2 x3 x4 x5 x6 q g G K U hin h _
    (reset_state arg3 harg3 arg4 harg4 arg5 harg5 arg6 harg6 arg7 harg7 arg9 harg9 arg11 arg12 x0 x1 x2 x3 x4 x6 q g G K U hin hq h) j t v

theorem out_B (hc0 : ¬ cond0_0 i) (hst : ∀ h v k, xs0 (ix3 h v k) = stateAt (G h) (K h) (U h) (16 * q.val) k v) (h : Fin 4) (j : Fin 16) (t : Fin 64)
    (v : Fin 128) :
    out0_B_7 c i arg3 harg3 arg4 harg4 arg5 harg5 arg6 harg6 arg7 harg7 arg8 harg8 arg9 harg9 arg10 harg10 arg11 harg11 arg12 harg12
      hc0 x0 x1 x2 x3 x4 x5 x6 xs0 (ix3 0 (tok j t) (hlane h v)) =
      normRow (outRow (blk x1 h j) (G h (cidx q j)) (K h (cidx q j)) (U h (cidx q j)) (stateAt (G h) (K h) (U h) (16 * q.val + j.val)) t)
        (x6 (ix2 0 (hlane h v))) (x5 (ix3 0 (tok j t) (hlane h v))) v := by
  unfold out0_B_7
  rw [View.read_writes_junk_eq_canon, outPieces_B, outPieces_apply (hh := h.isLt)]
  exact head_out arg3 harg3 arg4 harg4 arg5 harg5 arg6 harg6 arg7 harg7 arg8 harg8 arg9 harg9 arg12 x0 x1 x2 x3 x4 x5 x6 q g G K U hin h _
    (keep_state arg11 harg11 x0 x2 x3 x4 xs0 q g G K U hin hst h) j t v
end

end Cert.Hgrn
-- ==== Proof.Hgrn.Array.lean ====
module

public import proofs.«01_k».proof.Proof.Hgrn.Result
public import Idealize.ShloMosaic.Lib.Claim
public import Idealize.ShloMosaic.Lib.StableHlo.ReadAt
public import Idealize.ShloMosaic.Lib.Pipeline.ValueKit.Point

@[expose] public section

set_option maxRecDepth 16384

noncomputable section

/-! What the result array of `hgrn` holds. -/

namespace Cert.Hgrn

open Cert.KernelIdeal Cert.KernelIdeal.Gen Cert.KernelIdeal.Value Idealize.ShloMosaic Idealize.ShloMosaic.TcCoe

variable (m : (ℓ : Loc nD τ sig) → Buf (Elt Ideal) ℓ) (c : Dev nD)

/-- Grid point of batch row `b` and block `q` of 1024 tokens. -/
abbrev pt (b : Fin 16) (q : Fin 4) : Fin cfg0.N := ⟨4 * b.val + q.val, by have h : cfg0.N = 64 := rfl; omega⟩
/-- Row `r` of block `q`, and token `t` of chunk `n`. -/
abbrev row (q : Fin 4) (r : Fin 1024) : Fin 4096 := ⟨1024 * q.val + r.val, by omega⟩
abbrev at64 (n t : Fin 64) : Fin 4096 := ⟨64 * n.val + t.val, by omega⟩

/-- Chunk `n` of head `h` of an array, in batch row `b`. -/
def glob (x : S16x4096x512.Idx → EReal) (b : Fin 16) (h : Fin 4) (n : Fin 64) : Rows := fun t d => x (ix3 b (at64 n t) (hlane h d))

theorem idx_tokens : ∀ t : Fin cfg0.N, win0_1.index t = ![t.1 / 4, t.1 % 4, 0] ∧ win0_2.index t = ![t.1 / 4, t.1 % 4, 0]
    ∧ win0_3.index t = ![t.1 / 4, t.1 % 4, 0] ∧ win0_4.index t = ![t.1 / 4, t.1 % 4, 0] ∧ win0_5.index t = ![t.1 / 4, t.1 % 4, 0] :=
  (by decide +kernel : ∀ t : Fin grid0.N, win0_1.index t = ![t.1 / 4, t.1 % 4, 0] ∧ win0_2.index t = ![t.1 / 4, t.1 % 4, 0]
    ∧ win0_3.index t = ![t.1 / 4, t.1 % 4, 0] ∧ win0_4.index t = ![t.1 / 4, t.1 % 4, 0] ∧ win0_5.index t = ![t.1 / 4, t.1 % 4, 0])

theorem idx_consts : ∀ t : Fin cfg0.N, win0_0.index t = ![0, 0] ∧ win0_6.index t = ![0, 0] :=
  (by decide +kernel : ∀ t : Fin grid0.N, win0_0.index t = ![0, 0] ∧ win0_6.index t = ![0, 0])

theorem V_cst : V m c main_cst = marks := by
  unfold V
  simp only [List.flatten_cons, List.flatten_nil, List.append_nil, hostOps0, List.cons_append, List.nil_append]
  after_reads_simp
  rfl

theorem iblk0 (t : Fin cfg0.N) (r : Fin 448) (k : Fin 192) : iblk m c 0 t (ix2 r k) = marks (ix2 r k) := by
  refine Eq.trans ?_ (congrFun (V_cst m c) (ix2 r k))
  blk_ext [iblk, idx_consts t]
theorem iblk6 (t : Fin cfg0.N) (l : Fin 512) : iblk m c 6 t (ix2 (0 : Fin 1) l) = (m ((c : Thread nD τ).loc main_arg5)) (ix2 (0 : Fin 1) l) := by
  refine Eq.trans ?_ (congrFun (V_main_arg5 m c) (ix2 (0 : Fin 1) l))
  blk_ext [iblk, idx_consts t]

section
variable (b : Fin 16) (q : Fin 4) (r : Fin 1024) (l : Fin 512)

theorem pt_div : (pt b q).val / 4 = b.val := by show (4 * b.val + q.val) / 4 = b.val; omega
theorem pt_mod : (pt b q).val % 4 = q.val := by show (4 * b.val + q.val) % 4 = q.val; omega

theorem iblk1 : iblk m c 1 (pt b q) (ix3 (0 : Fin 1) r l) = (m ((c : Thread nD τ).loc main_arg0)) (ix3 b (row q r) l) := by
  refine Eq.trans ?_ (congrFun (V_main_arg0 m c) (ix3 b (row q r) l))
  blk_ext [iblk, idx_tokens (pt b q), pt_div, pt_mod]
theorem iblk2 : iblk m c 2 (pt b q) (ix3 (0 : Fin 1) r l) = (m ((c : Thread nD τ).loc main_arg1)) (ix3 b (row q r) l) := by
  refine Eq.trans ?_ (congrFun (V_main_arg1 m c) (ix3 b (row q r) l))
  blk_ext [iblk, idx_tokens (pt b q), pt_div, pt_mod]
theorem iblk3 : iblk m c 3 (pt b q) (ix3 (0 : Fin 1) r l) = (m ((c : Thread nD τ).loc main_arg2)) (ix3 b (row q r) l) := by
  refine Eq.trans ?_ (congrFun (V_main_arg2 m c) (ix3 b (row q r) l))
  blk_ext [iblk, idx_tokens (pt b q), pt_div, pt_mod]
theorem iblk4 : iblk m c 4 (pt b q) (ix3 (0 : Fin 1) r l) = (m ((c : Thread nD τ).loc main_arg3)) (ix3 b (row q r) l) := by
  refine Eq.trans ?_ (congrFun (V_main_arg3 m c) (ix3 b (row q r) l))
  blk_ext [iblk, idx_tokens (pt b q), pt_div, pt_mod]
theorem iblk5 : iblk m c 5 (pt b q) (ix3 (0 : Fin 1) r l) = (m ((c : Thread nD τ).loc main_arg4)) (ix3 b (row q r) l) := by
  refine Eq.trans ?_ (congrFun (V_main_arg4 m c) (ix3 b (row q r) l))
  blk_ext [iblk, idx_tokens (pt b q), pt_div, pt_mod]
end

/-- A token of a chunk of block `q` in the whole sequence. -/
theorem row_tok (q : Fin 4) (i : Fin 16) (t : Fin 64) : row q (tok i t) = at64 (cidx q i) t :=
  Fin.ext (by show 1024 * q.val + (64 * i.val + t.val) = 64 * (16 * q.val + i.val) + t.val; omega)

section
variable (g : S16x4096x512.Idx → ℝ) (hg : ∀ i, (m ((c : Thread nD τ).loc main_arg1)) i = (g i : EReal))
include hg

/-- The recurrence's state and result of batch row `b`. -/
abbrev seqState (b : Fin 16) (h : Fin 4) (n : ℕ) : Mat :=
  stateAt (glob (m ((c : Thread nD τ).loc main_arg1)) b h) (glob (m ((c : Thread nD τ).loc main_arg2)) b h) (glob (m ((c : Thread nD τ).loc main_arg3)) b h) n
abbrev seqOut (b : Fin 16) (h : Fin 4) (n t : Fin 64) (v : Fin 128) : EReal :=
  normRow (outRow (glob (m ((c : Thread nD τ).loc main_arg0)) b h n) (glob (m ((c : Thread nD τ).loc main_arg1)) b h n)
      (glob (m ((c : Thread nD τ).loc main_arg2)) b h n) (glob (m ((c : Thread nD τ).loc main_arg3)) b h n) (seqState m c b h n.val) t)
    ((m ((c : Thread nD τ).loc main_arg5)) (ix2 (0 : Fin 1) (hlane h v))) ((m ((c : Thread nD τ).loc main_arg4)) (ix3 b (at64 n t) (hlane h v))) v

theorem inputs (b : Fin 16) (q : Fin 4) : Inputs (iblk m c 0 (pt b q)) (iblk m c 2 (pt b q)) (iblk m c 3 (pt b q)) (iblk m c 4 (pt b q)) q
    (fun r l => g (ix3 b (row q r) l)) (glob (m ((c : Thread nD τ).loc main_arg1)) b) (glob (m ((c : Thread nD τ).loc main_arg2)) b)
    (glob (m ((c : Thread nD τ).loc main_arg3)) b) where
  marks := by
    funext y
    rw [eq_ix2 y]
    exact iblk0 m c _ _ _
  real r l := (iblk2 m c b q r l).trans (hg _)
  g h i := by
    funext t d
    show _ = ((g (ix3 b (row q (tok i t)) (hlane h d)) : ℝ) : EReal)
    rw [← hg, row_tok]
    rfl
  k h i := by
    funext t d
    refine Eq.trans ?_ (iblk3 m c b q (tok i t) (hlane h d)).symm
    rw [row_tok]
    rfl
  v h i := by
    funext t d
    refine Eq.trans ?_ (iblk4 m c b q (tok i t) (hlane h d)).symm
    rw [row_tok]
    rfl

omit hg in
theorem queries (b : Fin 16) (q : Fin 4) (h : Fin 4) (i : Fin 16) :
    blk (iblk m c 1 (pt b q)) h i = glob (m ((c : Thread nD τ).loc main_arg0)) b h (cidx q i) := by
  funext t d
  refine (iblk1 m c b q (tok i t) (hlane h d)).trans ?_
  rw [row_tok]
  rfl

/-- What a point's contents are to be. -/
structure Good (b : Fin 16) (q : Fin 4) (x : Vec Ideal S1x1024x512 .bf16 × Vec Ideal S4x128x128 .f32) : Prop where
  out : ∀ h i t v, x.1 (ix3 0 (tok i t) (hlane h v)) = seqOut m c b h (cidx q i) t v
  state : ∀ h v k, x.2 (ix3 h v k) = seqState m c b h (16 * q.val + 16) k v

theorem good_A (b : Fin 16) (q : Fin 4) (hq : q.val = 0) (acc : Vec Ideal S1x1024x512 .bf16 × Vec Ideal S4x128x128 .f32) :
    Good m c b q (stAt0 m c (pt b q).val (pt b q).isLt acc) := by
  have h0 : (pt b q).val % 4 = 0 := (pt_mod b q).trans hq
  have e := stAt0_A m c (pt b q) acc h0
  refine ⟨fun h i t v => (congrFun (congrArg Prod.fst e) (ix3 0 (tok i t) (hlane h v))).trans ?_, fun h v k => (congrFun (congrArg Prod.snd e) (ix3 h v k)).trans ?_⟩
  · have ho := out_A (ms0_0 (pt b q)) (hs0_0 (pt b q)) (ms0_1 (pt b q)) (hs0_1 (pt b q)) (ms0_2 (pt b q)) (hs0_2 (pt b q)) (ms0_3 (pt b q)) (hs0_3 (pt b q)) (ms0_4 (pt b q)) (hs0_4 (pt b q)) (ms0_5 (pt b q)) (hs0_5 (pt b q)) (ms0_6 (pt b q)) (hs0_6 (pt b q)) (ms0_7 (pt b q)) (hs0_7 (pt b q)) scM0_0 (Memref.isWhole_whole _) scM0_1 (Memref.isWhole_whole _)
      (iblk m c 0 (pt b q)) (iblk m c 1 (pt b q)) (iblk m c 2 (pt b q)) (iblk m c 3 (pt b q)) (iblk m c 4 (pt b q)) (iblk m c 5 (pt b q)) (iblk m c 6 (pt b q)) q (fun r l => g (ix3 b (row q r) l)) (glob (m ((c : Thread nD τ).loc main_arg1)) b)
      (glob (m ((c : Thread nD τ).loc main_arg2)) b) (glob (m ((c : Thread nD τ).loc main_arg3)) b) (inputs m c g hg b q) c (grid0.coords (pt b q))
      ((hcond0_0 (pt b q)).mpr h0) hq h i t v
    dsimp only
    rw [ho, queries, iblk6, iblk5, row_tok]
  · have ho := state_A (ms0_0 (pt b q)) (hs0_0 (pt b q)) (ms0_1 (pt b q)) (hs0_1 (pt b q)) (ms0_2 (pt b q)) (hs0_2 (pt b q)) (ms0_3 (pt b q)) (hs0_3 (pt b q)) (ms0_4 (pt b q)) (hs0_4 (pt b q)) (ms0_5 (pt b q)) (hs0_5 (pt b q)) (ms0_6 (pt b q)) (hs0_6 (pt b q)) (ms0_7 (pt b q)) (hs0_7 (pt b q)) scM0_0 (Memref.isWhole_whole _) scM0_1 (Memref.isWhole_whole _)
      (iblk m c 0 (pt b q)) (iblk m c 1 (pt b q)) (iblk m c 2 (pt b q)) (iblk m c 3 (pt b q)) (iblk m c 4 (pt b q)) (iblk m c 5 (pt b q)) (iblk m c 6 (pt b q)) q (fun r l => g (ix3 b (row q r) l)) (glob (m ((c : Thread nD τ).loc main_arg1)) b)
      (glob (m ((c : Thread nD τ).loc main_arg2)) b) (glob (m ((c : Thread nD τ).loc main_arg3)) b) (inputs m c g hg b q) c (grid0.coords (pt b q))
      ((hcond0_0 (pt b q)).mpr h0) hq h v k
    dsimp only
    rw [ho]

theorem good_B (b : Fin 16) (q : Fin 4) (hq : q.val ≠ 0) (acc : Vec Ideal S1x1024x512 .bf16 × Vec Ideal S4x128x128 .f32)
    (hst : ∀ h v k, acc.2 (ix3 h v k) = seqState m c b h (16 * q.val) k v) :
    Good m c b q (stAt0 m c (pt b q).val (pt b q).isLt acc) := by
  have h0 : ¬(pt b q).val % 4 = 0 := fun hc => hq ((pt_mod b q).symm.trans hc)
  have e := stAt0_B m c (pt b q) acc h0
  refine ⟨fun h i t v => (congrFun (congrArg Prod.fst e) (ix3 0 (tok i t) (hlane h v))).trans ?_, fun h v k => (congrFun (congrArg Prod.snd e) (ix3 h v k)).trans ?_⟩
  · have ho := out_B (ms0_0 (pt b q)) (hs0_0 (pt b q)) (ms0_1 (pt b q)) (hs0_1 (pt b q)) (ms0_2 (pt b q)) (hs0_2 (pt b q)) (ms0_3 (pt b q)) (hs0_3 (pt b q)) (ms0_4 (pt b q)) (hs0_4 (pt b q)) (ms0_5 (pt b q)) (hs0_5 (pt b q)) (ms0_6 (pt b q)) (hs0_6 (pt b q)) (ms0_7 (pt b q)) (hs0_7 (pt b q)) scM0_0 (Memref.isWhole_whole _) scM0_1 (Memref.isWhole_whole _)
      (iblk m c 0 (pt b q)) (iblk m c 1 (pt b q)) (iblk m c 2 (pt b q)) (iblk m c 3 (pt b q)) (iblk m c 4 (pt b q)) (iblk m c 5 (pt b q)) (iblk m c 6 (pt b q)) acc.2 q (fun r l => g (ix3 b (row q r) l)) (glob (m ((c : Thread nD τ).loc main_arg1)) b)
      (glob (m ((c : Thread nD τ).loc main_arg2)) b) (glob (m ((c : Thread nD τ).loc main_arg3)) b) (inputs m c g hg b q) c (grid0.coords (pt b q))
      (fun hc => h0 ((hcond0_0 (pt b q)).mp hc)) hst h i t v
    dsimp only
    rw [ho, queries, iblk6, iblk5, row_tok]
  · have ho := state_B (ms0_0 (pt b q)) (hs0_0 (pt b q)) (ms0_1 (pt b q)) (hs0_1 (pt b q)) (ms0_2 (pt b q)) (hs0_2 (pt b q)) (ms0_3 (pt b q)) (hs0_3 (pt b q)) (ms0_4 (pt b q)) (hs0_4 (pt b q)) (ms0_5 (pt b q)) (hs0_5 (pt b q)) (ms0_6 (pt b q)) (hs0_6 (pt b q)) (ms0_7 (pt b q)) (hs0_7 (pt b q)) scM0_0 (Memref.isWhole_whole _) scM0_1 (Memref.isWhole_whole _)
      (iblk m c 0 (pt b q)) (iblk m c 1 (pt b q)) (iblk m c 2 (pt b q)) (iblk m c 3 (pt b q)) (iblk m c 4 (pt b q)) (iblk m c 5 (pt b q)) (iblk m c 6 (pt b q)) acc.2 q (fun r l => g (ix3 b (row q r) l)) (glob (m ((c : Thread nD τ).loc main_arg1)) b)
      (glob (m ((c : Thread nD τ).loc main_arg2)) b) (glob (m ((c : Thread nD τ).loc main_arg3)) b) (inputs m c g hg b q) c (grid0.coords (pt b q))
      (fun hc => h0 ((hcond0_0 (pt b q)).mp hc)) hst h v k
    dsimp only
    rw [ho]

omit hg in
theorem outs_step (t : ℕ) (ht : t < cfg0.N) : ∃ acc, outsAt0 m c t ht = stAt0 m c t ht acc := by
  cases t with
  | zero => exact ⟨_, outsAt0_zero m c ht⟩
  | succ n => exact ⟨_, outsAt0_succ m c n ht⟩

theorem good (b : Fin 16) : ∀ (n : ℕ) (hn : n < 4), Good m c b ⟨n, hn⟩ (outsAt0 m c (pt b ⟨n, hn⟩).val (pt b ⟨n, hn⟩).isLt)
  | 0, hn => by
    obtain ⟨acc, h⟩ := outs_step m c (pt b ⟨0, hn⟩).val (pt b ⟨0, hn⟩).isLt
    rw [h]
    exact good_A m c g hg b ⟨0, hn⟩ rfl acc
  | n + 1, hn => good_B m c g hg b ⟨n + 1, hn⟩ (Nat.succ_ne_zero n) _ (good b n (Nat.lt_of_succ_lt hn)).state

/-- The result array at a token and a lane. -/
theorem result_at (b : Fin 16) (n t : Fin 64) (h : Fin 4) (v : Fin 128) : G7 m c (ix3 b (at64 n t) (hlane h v)) = seqOut m c b h n t v := by
  obtain ⟨q, i, rfl⟩ : ∃ (q : Fin 4) (i : Fin 16), n = cidx q i :=
    ⟨⟨n.val / 16, by omega⟩, ⟨n.val % 16, by omega⟩, Fin.ext (by show n.val = 16 * (n.val / 16) + n.val % 16; omega)⟩
  rw [← (good m c g hg b q.val q.isLt).out h i t v, outsAt0_sweep]
  have hp : pt7Of (ix3 b (at64 (cidx q i) t) (hlane h v)) = (pt b q).val := by
    show 4 * (b.val / 1 - 0) + 1 * ((64 * (16 * q.val + i.val) + t.val) / 1024 - 0) + 1 * ((128 * h.val + v.val) / 512 - 0) = 4 * b.val + q.val
    omega
  have hl : loc7Of (ix3 b (at64 (cidx q i) t) (hlane h v)) = ix3 0 (tok i t) (hlane h v) := by
    funext a
    fin_cases a <;> apply Fin.ext
    · show b.val % 1 = 0; omega
    · show (64 * (16 * q.val + i.val) + t.val) % 1024 = 64 * i.val + t.val; omega
    · show (128 * h.val + v.val) % 512 = 128 * h.val + v.val; omega
  unfold G7
  refine (dif_pos (hp ▸ (pt b q).isLt)).trans ?_
  exact congr (congrArg Prod.fst (fold0_congr m c _ _ _ _ hp)) hl
end

end Cert.Hgrn
-- ==== Proof.Inproj.BodyIdeal.lean ====
/-
  The frame of the input norm and projections.  The generated kit states the launch, the schedule and what each
  input window holds; this module adds what one run of the kernel leaves in the eleven output windows, runs the
  body over its skeleton, and assembles the launch.  The body's obligation is over twenty-six windows, which is
  why its budget is raised.
-/
module

public import proofs.«01_k».proof.Proof.Gen.InprojIdeal.Frame
public import proofs.«01_k».proof.Proof.Gen.InprojIdeal.Skeleton
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.InprojIdeal.Run

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the body reads and writes: a step handles 1024 tokens as two halves of 512 -/

abbrev lbl : Rect S2x512 := Rect.unit (s := S2x512) ![0, 0] S2x512.size inb_S2x512_S2x512_0_0
abbrev lo1024 : Rect S1024x1024 := Rect.unit (s := S1024x1024) ![0, 0] S512x1024.size inb_S1024x1024_S512x1024_0_0
abbrev hi1024 : Rect S1024x1024 := Rect.unit (s := S1024x1024) ![512, 0] S512x1024.size inb_S1024x1024_S512x1024_512_0
abbrev vec : Rect S1x1024 := Rect.unit (s := S1x1024) ![0, 0] S1x1024.size inb_S1x1024_S1x1024_0_0
abbrev mat512 : Rect S1024x512 := Rect.unit (s := S1024x512) ![0, 0] S1024x512.size inb_S1024x512_S1024x512_0_0
abbrev lo512 : Rect S1024x512 := Rect.unit (s := S1024x512) ![0, 0] S512x512.size inb_S1024x512_S512x512_0_0
abbrev hi512 : Rect S1024x512 := Rect.unit (s := S1024x512) ![512, 0] S512x512.size inb_S1024x512_S512x512_512_0
abbrev tr512 : Rect S512x1024 := Rect.unit (s := S512x1024) ![0, 0] S512x1024.size inb_S512x1024_S512x1024_0_0
abbrev left512 : Rect S512x1024 := Rect.unit (s := S512x1024) ![0, 0] S512x512.size inb_S512x1024_S512x512_0_0
abbrev right512 : Rect S512x1024 := Rect.unit (s := S512x1024) ![0, 512] S512x512.size inb_S512x1024_S512x512_0_512
abbrev mat128 : Rect S1024x128 := Rect.unit (s := S1024x128) ![0, 0] S1024x128.size inb_S1024x128_S1024x128_0_0
abbrev vec128 : Rect S1x128 := Rect.unit (s := S1x128) ![0, 0] S1x128.size inb_S1x128_S1x128_0_0
abbrev lo128 : Rect S1024x128 := Rect.unit (s := S1024x128) ![0, 0] S512x128.size inb_S1024x128_S512x128_0_0
abbrev hi128 : Rect S1024x128 := Rect.unit (s := S1024x128) ![512, 0] S512x128.size inb_S1024x128_S512x128_512_0
abbrev mat1024 : Rect S1024x1024 := Rect.unit (s := S1024x1024) ![0, 0] S1024x1024.size inb_S1024x1024_S1024x1024_0_0

/-! ## What one run of the body leaves in each output window -/

/-- The lower bound of the recurrence's forget gates, from the two rows of logits. -/
def share (e : Vec F S2x512 .f32) : FVec F S1x512 .f32 := k0_pay2 (View.ld e lbl)

/-- The normed tokens of the first half, -/
def top (x : Vec F S1024x1024 .f32) (g b : Vec F S1x1024 .f32) : FVec F S512x1024 .bf16 :=
  k0_pay3 (View.ld x lo1024) (View.ld g vec) (View.ld b vec)

/-- and of the second. -/
def bottom (x : Vec F S1024x1024 .f32) (g b : Vec F S1x1024 .f32) : FVec F S512x1024 .bf16 :=
  k0_pay20 (View.ld x hi1024) (View.ld g vec) (View.ld b vec)

/-- The recurrence's queries. -/
def hgQ (x : Vec F S1024x1024 .f32) (g b : Vec F S1x1024 .f32) (w : Vec F S1024x512 .bf16) : Vec F S1024x512 .bf16 :=
  View.canon [⟨hi512, k0_pay22 (k0_pay21 (View.ld x hi1024) (View.ld g vec) (View.ld b vec) (View.ld w mat512))⟩,
    ⟨lo512, k0_pay5 (k0_pay4 (View.ld x lo1024) (View.ld g vec) (View.ld b vec) (View.ld w mat512)) (Scalar.ofBits .f32 0x3F000000#32)⟩]

/-- The recurrence's log forget gates. -/
def hgG (x : Vec F S1024x1024 .f32) (g b : Vec F S1x1024 .f32) (e : Vec F S2x512 .f32) (w : Vec F S1024x512 .bf16) : Vec F S1024x512 .f32 :=
  View.canon [⟨hi512, k0_pay24 (share e) (bottom x g b) (View.ld w mat512)⟩,
    ⟨lo512, k0_pay7 (share e) (top x g b) (View.ld w mat512)⟩]

/-- The recurrence's keys. -/
def hgK (x : Vec F S1024x1024 .f32) (g b : Vec F S1x1024 .f32) (e : Vec F S2x512 .f32) (w : Vec F S1024x512 .bf16) : Vec F S1024x512 .bf16 :=
  View.canon [⟨hi512, k0_pay25 (share e) (bottom x g b) (View.ld w mat512)⟩,
    ⟨lo512, k0_pay8 (share e) (top x g b) (View.ld w mat512)⟩]

/-- The recurrence's inputs. -/
def hgI (x : Vec F S1024x1024 .f32) (g b : Vec F S1x1024 .f32) (w : Vec F S1024x512 .bf16) : Vec F S1024x512 .bf16 :=
  View.canon [⟨hi512, k0_pay26 (bottom x g b) (View.ld w mat512)⟩,
    ⟨lo512, k0_pay10 (top x g b) (k0_pay9 (View.ld w mat512))⟩]

/-- The recurrence's output gate. -/
def hgGate (x : Vec F S1024x1024 .f32) (g b : Vec F S1x1024 .f32) (w : Vec F S1024x512 .bf16) : Vec F S1024x512 .bf16 :=
  View.canon [⟨hi512, k0_pay27 (bottom x g b) (View.ld w mat512)⟩,
    ⟨lo512, k0_pay11 (top x g b) (View.ld w mat512)⟩]

/-- The attention's scaled queries, transposed. -/
def fxQ (x : Vec F S1024x1024 .f32) (g b : Vec F S1x1024 .f32) (w : Vec F S512x1024 .bf16) : Vec F S512x1024 .bf16 :=
  View.canon [⟨right512, k0_pay28 (bottom x g b) (View.ld w tr512)⟩,
    ⟨left512, k0_pay12 (top x g b) (View.ld w tr512)⟩]

/-- The attention's keys. -/
def fxK (x : Vec F S1024x1024 .f32) (g b : Vec F S1x1024 .f32) (w : Vec F S1024x512 .bf16) : Vec F S1024x512 .bf16 :=
  View.canon [⟨hi512, k0_pay29 (bottom x g b) (View.ld w mat512)⟩,
    ⟨lo512, k0_pay13 (top x g b) (View.ld w mat512)⟩]

/-- The attention's values, transposed. -/
def fxV (x : Vec F S1024x1024 .f32) (g b : Vec F S1x1024 .f32) (w : Vec F S512x1024 .bf16) : Vec F S512x1024 .bf16 :=
  View.canon [⟨right512, k0_pay31 (bottom x g b) (k0_pay30 (View.ld w tr512)) (constant S512x512 .f32 0x00000000#32)⟩,
    ⟨left512, k0_pay15 (k0_pay14 (top x g b) (View.ld w tr512))⟩]

/-- The attention's log forget gates. -/
def fxLog (x : Vec F S1024x1024 .f32) (g b : Vec F S1x1024 .f32) (w : Vec F S1024x128 .bf16) (f : Vec F S1x128 .f32) : Vec F S1024x128 .f32 :=
  View.canon [⟨hi128, k0_pay32 (bottom x g b) (View.ld w mat128) (View.ld f vec128)⟩,
    ⟨lo128, k0_pay16 (top x g b) (View.ld w mat128) (View.ld f vec128)⟩]

/-- The first branch gate. -/
def gateA (x : Vec F S1024x1024 .f32) (g b : Vec F S1x1024 .f32) (w : Vec F S1024x1024 .bf16) : Vec F S1024x1024 .bf16 :=
  View.canon [⟨hi1024, k0_pay33 (bottom x g b) (View.ld w mat1024)⟩,
    ⟨lo1024, k0_pay17 (top x g b) (View.ld w mat1024)⟩]

/-- The second branch gate. -/
def gateB (x : Vec F S1024x1024 .f32) (g b : Vec F S1x1024 .f32) (w : Vec F S1024x1024 .bf16) : Vec F S1024x1024 .bf16 :=
  View.canon [⟨hi1024, k0_pay1 (bottom x g b) (k0_pay34 (View.ld w mat1024))⟩,
    ⟨lo1024, k0_pay19 (top x g b) (k0_pay18 (View.ld w mat1024)) (constant S512x1024 .f32 0x00000000#32)⟩]

/-! Two halves cover each window. -/

theorem cover_c (p q : Vec F S512x512 .bf16) (y : S1024x512.Idx) :
    ∃ pc ∈ ([⟨hi512, p⟩, ⟨lo512, q⟩] : List (View.Piece (Elt F) S1024x512 .bf16)), y ∈ pc.1.set :=
  View.cover_of_tiled [⟨hi512, p⟩, ⟨lo512, q⟩] S512x512.size (by rfl) y

theorem cover_c_f (p q : Vec F S512x512 .f32) (y : S1024x512.Idx) :
    ∃ pc ∈ ([⟨hi512, p⟩, ⟨lo512, q⟩] : List (View.Piece (Elt F) S1024x512 .f32)), y ∈ pc.1.set :=
  View.cover_of_tiled [⟨hi512, p⟩, ⟨lo512, q⟩] S512x512.size (by rfl) y

theorem cover_t (p q : Vec F S512x512 .bf16) (y : S512x1024.Idx) :
    ∃ pc ∈ ([⟨right512, p⟩, ⟨left512, q⟩] : List (View.Piece (Elt F) S512x1024 .bf16)), y ∈ pc.1.set :=
  View.cover_of_tiled [⟨right512, p⟩, ⟨left512, q⟩] S512x512.size (by rfl) y

theorem cover_g (p q : Vec F S512x128 .f32) (y : S1024x128.Idx) :
    ∃ pc ∈ ([⟨hi128, p⟩, ⟨lo128, q⟩] : List (View.Piece (Elt F) S1024x128 .f32)), y ∈ pc.1.set :=
  View.cover_of_tiled [⟨hi128, p⟩, ⟨lo128, q⟩] S512x128.size (by rfl) y

theorem cover_w (p q : Vec F S512x1024 .bf16) (y : S1024x1024.Idx) :
    ∃ pc ∈ ([⟨hi1024, p⟩, ⟨lo1024, q⟩] : List (View.Piece (Elt F) S1024x1024 .bf16)), y ∈ pc.1.set :=
  View.cover_of_tiled [⟨hi1024, p⟩, ⟨lo1024, q⟩] S512x1024.size (by rfl) y

/-! ## The run of the body -/

set_option maxHeartbeats 1000000 in
/-- On buffers holding the input blocks and any output blocks, the body runs and leaves the inputs as they were and
    each output window at its value. -/
theorem sound_kernel (c : Dev nD) (E : Set ℕ) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S2x512 .f32) (harg4 : arg4.IsWhole) (arg5 : Memref sig .tc .vmem S1x128 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S1024x128 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x512 .bf16) (harg16 : arg16.IsWhole) (arg17 : Memref sig .tc .vmem S1024x512 .f32) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S512x1024 .bf16) (harg21 : arg21.IsWhole) (arg22 : Memref sig .tc .vmem S1024x512 .bf16) (harg22 : arg22.IsWhole) (arg23 : Memref sig .tc .vmem S512x1024 .bf16) (harg23 : arg23.IsWhole) (arg24 : Memref sig .tc .vmem S1024x128 .f32) (harg24 : arg24.IsWhole) (arg25 : Memref sig .tc .vmem S1024x1024 .bf16) (harg25 : arg25.IsWhole) (arg26 : Memref sig .tc .vmem S1024x1024 .bf16) (harg26 : arg26.IsWhole)
    (x0 : Vec F S1024x1024 .f32) (x1 : Vec F S1x1024 .f32) (x2 : Vec F S1x1024 .f32) (x3 : Vec F S2x512 .f32) (x4 : Vec F S1x128 .f32) (x5 : Vec F S1024x512 .bf16) (x6 : Vec F S1024x512 .bf16) (x7 : Vec F S1024x512 .bf16) (x8 : Vec F S1024x512 .bf16) (x9 : Vec F S512x1024 .bf16) (x10 : Vec F S1024x512 .bf16) (x11 : Vec F S512x1024 .bf16) (x12 : Vec F S1024x128 .bf16) (x13 : Vec F S1024x1024 .bf16) (x14 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (hgQ x0 x1 x2 x5) ∗ owns (c : Thread nD τ) arg17 fullShare (hgG x0 x1 x2 x3 x6) ∗ owns (c : Thread nD τ) arg18 fullShare (hgK x0 x1 x2 x3 x6) ∗ owns (c : Thread nD τ) arg19 fullShare (hgI x0 x1 x2 x7) ∗ owns (c : Thread nD τ) arg20 fullShare (hgGate x0 x1 x2 x8) ∗ owns (c : Thread nD τ) arg21 fullShare (fxQ x0 x1 x2 x9) ∗ owns (c : Thread nD τ) arg22 fullShare (fxK x0 x1 x2 x10) ∗ owns (c : Thread nD τ) arg23 fullShare (fxV x0 x1 x2 x11) ∗ owns (c : Thread nD τ) arg24 fullShare (fxLog x0 x1 x2 x12 x4) ∗ owns (c : Thread nD τ) arg25 fullShare (gateA x0 x1 x2 x13) ∗ owns (c : Thread nD τ) arg26 fullShare (gateB x0 x1 x2 x14)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover_c _ _)).trans ?_
    rfl
  isplitl [H16]
  · iexists _; isplitr
    swap; · iexact H16
    ipureintro
    refine (View.read_writes_eq_canon _ _ _ (cover_c_f _ _)).trans ?_
    rfl
  isplitl [H17]
  · iexists _; isplitr
    swap; · iexact H17
    ipureintro
    refine (View.read_writes_eq_canon _ _ _ (cover_c _ _)).trans ?_
    rfl
  isplitl [H18]
  · iexists _; isplitr
    swap; · iexact H18
    ipureintro
    refine (View.read_writes_eq_canon _ _ _ (cover_c _ _)).trans ?_
    rfl
  isplitl [H19]
  · iexists _; isplitr
    swap; · iexact H19
    ipureintro
    refine (View.read_writes_eq_canon _ _ _ (cover_c _ _)).trans ?_
    rfl
  isplitl [H20]
  · iexists _; isplitr
    swap; · iexact H20
    ipureintro
    refine (View.read_writes_eq_canon _ _ _ (cover_t _ _)).trans ?_
    rfl
  isplitl [H21]
  · iexists _; isplitr
    swap; · iexact H21
    ipureintro
    refine (View.read_writes_eq_canon _ _ _ (cover_c _ _)).trans ?_
    rfl
  isplitl [H22]
  · iexists _; isplitr
    swap; · iexact H22
    ipureintro
    refine (View.read_writes_eq_canon _ _ _ (cover_t _ _)).trans ?_
    rfl
  isplitl [H23]
  · iexists _; isplitr
    swap; · iexact H23
    ipureintro
    refine (View.read_writes_eq_canon _ _ _ (cover_g _ _)).trans ?_
    rfl
  isplitl [H24]
  · iexists _; isplitr
    swap; · iexact H24
    ipureintro
    refine (View.read_writes_eq_canon _ _ _ (cover_w _ _)).trans ?_
    rfl
  iexists _; isplitr
  swap; · iexact H25
  ipureintro
  refine (View.read_writes_eq_canon _ _ _ (cover_w _ _)).trans ?_
  rfl

/-! ## The pipeline's proof data -/

/-- Each input window keeps its block; each output window gets its value of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => hgQ (iblk m c 0 t) (iblk m c 1 t) (iblk m c 2 t) (iblk m c 5 t)
    | ⟨16, _⟩ => hgG (iblk m c 0 t) (iblk m c 1 t) (iblk m c 2 t) (iblk m c 3 t) (iblk m c 6 t)
    | ⟨17, _⟩ => hgK (iblk m c 0 t) (iblk m c 1 t) (iblk m c 2 t) (iblk m c 3 t) (iblk m c 6 t)
    | ⟨18, _⟩ => hgI (iblk m c 0 t) (iblk m c 1 t) (iblk m c 2 t) (iblk m c 7 t)
    | ⟨19, _⟩ => hgGate (iblk m c 0 t) (iblk m c 1 t) (iblk m c 2 t) (iblk m c 8 t)
    | ⟨20, _⟩ => fxQ (iblk m c 0 t) (iblk m c 1 t) (iblk m c 2 t) (iblk m c 9 t)
    | ⟨21, _⟩ => fxK (iblk m c 0 t) (iblk m c 1 t) (iblk m c 2 t) (iblk m c 10 t)
    | ⟨22, _⟩ => fxV (iblk m c 0 t) (iblk m c 1 t) (iblk m c 2 t) (iblk m c 11 t)
    | ⟨23, _⟩ => fxLog (iblk m c 0 t) (iblk m c 1 t) (iblk m c 2 t) (iblk m c 12 t) (iblk m c 4 t)
    | ⟨24, _⟩ => gateA (iblk m c 0 t) (iblk m c 1 t) (iblk m c 2 t) (iblk m c 13 t)
    | ⟨25, _⟩ => gateB (iblk m c 0 t) (iblk m c 1 t) (iblk m c 2 t) (iblk m c 14 t)
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = hgQ (iblk m c 0 t) (iblk m c 1 t) (iblk m c 2 t) (iblk m c 5 t) := by dsimp only [dats]
theorem after16 (c : Dev nD) (t : Fin cfg0.N) : (dats m 0 c).after 16 t = hgG (iblk m c 0 t) (iblk m c 1 t) (iblk m c 2 t) (iblk m c 3 t) (iblk m c 6 t) := by dsimp only [dats]
theorem after17 (c : Dev nD) (t : Fin cfg0.N) : (dats m 0 c).after 17 t = hgK (iblk m c 0 t) (iblk m c 1 t) (iblk m c 2 t) (iblk m c 3 t) (iblk m c 6 t) := by dsimp only [dats]
theorem after18 (c : Dev nD) (t : Fin cfg0.N) : (dats m 0 c).after 18 t = hgI (iblk m c 0 t) (iblk m c 1 t) (iblk m c 2 t) (iblk m c 7 t) := by dsimp only [dats]
theorem after19 (c : Dev nD) (t : Fin cfg0.N) : (dats m 0 c).after 19 t = hgGate (iblk m c 0 t) (iblk m c 1 t) (iblk m c 2 t) (iblk m c 8 t) := by dsimp only [dats]
theorem after20 (c : Dev nD) (t : Fin cfg0.N) : (dats m 0 c).after 20 t = fxQ (iblk m c 0 t) (iblk m c 1 t) (iblk m c 2 t) (iblk m c 9 t) := by dsimp only [dats]
theorem after21 (c : Dev nD) (t : Fin cfg0.N) : (dats m 0 c).after 21 t = fxK (iblk m c 0 t) (iblk m c 1 t) (iblk m c 2 t) (iblk m c 10 t) := by dsimp only [dats]
theorem after22 (c : Dev nD) (t : Fin cfg0.N) : (dats m 0 c).after 22 t = fxV (iblk m c 0 t) (iblk m c 1 t) (iblk m c 2 t) (iblk m c 11 t) := by dsimp only [dats]
theorem after23 (c : Dev nD) (t : Fin cfg0.N) : (dats m 0 c).after 23 t = fxLog (iblk m c 0 t) (iblk m c 1 t) (iblk m c 2 t) (iblk m c 12 t) (iblk m c 4 t) := by dsimp only [dats]
theorem after24 (c : Dev nD) (t : Fin cfg0.N) : (dats m 0 c).after 24 t = gateA (iblk m c 0 t) (iblk m c 1 t) (iblk m c 2 t) (iblk m c 13 t) := by dsimp only [dats]
theorem after25 (c : Dev nD) (t : Fin cfg0.N) : (dats m 0 c).after 25 t = gateB (iblk m c 0 t) (iblk m c 1 t) (iblk m c 2 t) (iblk m c 14 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

theorem defs₀_row (t : Fin cfg0.N) :
    defs₀ (F := F) .tc cfg0.body (cfg0.bodyArgs t (cfg0.slots t)) = bodyAt0 t := by
  unfold defs₀; rw [Defs.onTc_tc]

set_option maxHeartbeats 1000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with the pipeline's arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every execution ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.InprojIdeal.Run

end
-- ==== Proof.Tail.Spec.lean ====
module

public import Idealize.ShloMosaic.PureOps.Ideal.Laws

@[expose] public section

noncomputable section

/-! The tail of the layer for one token, as a function of the token's rows and of the weights. -/

namespace Cert.Tail

open Idealize.ShloMosaic

/-- The mean of a row of 1024 entries. -/
def mean (x : Fin 1024 → EReal) : EReal := Ideal.div (∑ k, x k) (Ideal.ofBits .f32 0x44800000#32)

/-- Layer normalisation of a row, with scale `g` and shift `b`. -/
def lnRow (x g b : Fin 1024 → EReal) (j : Fin 1024) : EReal :=
  (x j - mean x) * Ideal.rsqrt (mean (fun k => (x k - mean x) * (x k - mean x)) + Ideal.ofBits .f32 0x3727C5AC#32) * g j + b j

/-- A row times a matrix. -/
def mv {n p : ℕ} (a : Fin n → EReal) (w : Fin n → Fin p → EReal) (j : Fin p) : EReal := ∑ k, a k * w k j

/-- The residual scale, `2 ^ (1/4)` as a float word. -/
abbrev alpha : EReal := Ideal.ofBits .f32 0x3F9837F0#32

/-- The row after the mixers: both branches gated and projected, the output projection, the residual and its norm. -/
def hRow (x g0 b0 : Fin 1024 → EReal) (ya yb : Fin 512 → EReal) (sa sb : Fin 1024 → EReal)
    (wa wb : Fin 512 → Fin 1024 → EReal) (wo : Fin 1024 → Fin 1024 → EReal) (g1 b1 : Fin 1024 → EReal) : Fin 1024 → EReal :=
  lnRow (fun j => alpha * lnRow x g0 b0 j + mv (fun k => sa k * mv ya wa k + sb k * mv yb wb k) wo j) g1 b1

/-- The square of the positive part. -/
def sqRelu (x : EReal) : EReal := max x 0 * max x 0

/-- One block of 1024 hidden units of the feed-forward, from unit `o` on. -/
def ffBlock (h : Fin 1024 → EReal) (w1 : Fin 1024 → Fin 4096 → EReal) (w2 : Fin 4096 → Fin 1024 → EReal) (o : ℕ) (ho : o + 1024 ≤ 4096)
    (j : Fin 1024) : EReal :=
  ∑ f : Fin 1024, sqRelu (mv h w1 ⟨o + f, by omega⟩) * w2 ⟨o + f, by omega⟩ j

/-- The gate through the half-angle form of the logistic function. -/
def gateTanh (x : EReal) : EReal :=
  Ideal.ofBits .f32 0x3F000000#32 + Ideal.ofBits .f32 0x3F000000#32 * Ideal.tanh (Ideal.ofBits .f32 0x3F000000#32 * x)

/-- The sum that the last norm takes, accumulated block by block. -/
def accRow (h : Fin 1024 → EReal) (p : Fin 256 → EReal) (w1 : Fin 1024 → Fin 4096 → EReal) (w2 : Fin 4096 → Fin 1024 → EReal)
    (wg : Fin 1024 → Fin 1024 → EReal) (wp : Fin 256 → Fin 1024 → EReal) (j : Fin 1024) : EReal :=
  alpha * h j + gateTanh (mv h wg j) * mv p wp j + ffBlock h w1 w2 0 (by omega) j + ffBlock h w1 w2 1024 (by omega) j
    + ffBlock h w1 w2 2048 (by omega) j + ffBlock h w1 w2 3072 (by omega) j

/-- The same sum with the feed-forward summed at once and the logistic function spelt out. -/
def refRow (h : Fin 1024 → EReal) (p : Fin 256 → EReal) (w1 : Fin 1024 → Fin 4096 → EReal) (w2 : Fin 4096 → Fin 1024 → EReal)
    (wg : Fin 1024 → Fin 1024 → EReal) (wp : Fin 256 → Fin 1024 → EReal) (j : Fin 1024) : EReal :=
  alpha * h j + mv (fun f => sqRelu (mv h w1 f)) w2 j + Ideal.div 1 (1 + Ideal.exp (-mv h wg j)) * mv p wp j

end Cert.Tail
-- ==== Proof.Inproj.Spec.lean ====
module

public import proofs.«01_k».proof.Proof.Tail.Spec

@[expose] public section

noncomputable section

/-! The input norm and projections for one token, as functions of the token's normed row and of the weights. -/

namespace Cert.Proj

open Idealize.ShloMosaic Cert.Tail

abbrev half : EReal := Ideal.ofBits .f32 0x3F000000#32
/-- The scale of the attention's queries, one eighth of the binary logarithm of e, as a float word. -/
abbrev scale : EReal := Ideal.ofBits .f32 0x3E38AA3B#32

/-- A matrix times a column. -/
def vm {n p : ℕ} (w : Fin p → Fin n → EReal) (a : Fin n → EReal) (j : Fin p) : EReal := ∑ k, w j k * a k

/-- Half the hyperbolic tangent of half the argument. -/
def halfTanh (z : EReal) : EReal := half * Ideal.tanh (half * z)

def siluTanh (z : EReal) : EReal := z * (half + halfTanh z)

/-- The lower bound of the forget gates: the first of the two shares of a softmax. -/
def share (e : Fin 2 → EReal) : EReal :=
  Ideal.div (Ideal.exp (e 0 - Finset.fold max (Ideal.ofBits .f32 0xFF800000#32) e Finset.univ))
    (∑ k, Ideal.exp (e k - Finset.fold max (Ideal.ofBits .f32 0xFF800000#32) e Finset.univ))

def logGate (l z : EReal) : EReal := Ideal.log (l + (1 - l) * (half + halfTanh z))

def keyOf (l z : EReal) : EReal := (1 - l) * (half - halfTanh z)

/-- The logarithm of the logistic function. -/
def logSig (z : EReal) : EReal := min z 0 - Ideal.log (1 + Ideal.exp (0 - max z (-z)))

/-! The same activations as the reference writes them. -/

/-- The logistic function. -/
def logi (z : EReal) : EReal := Ideal.div 1 (1 + Ideal.exp (-z))

/-- The share with the running maximum of the softmax bounded below once more. -/
def shareRef (e : Fin 2 → EReal) : EReal :=
  Ideal.div (Ideal.exp (e 0 - max (Ideal.ofBits .f32 0xFF800000#32) (Finset.fold max (Ideal.ofBits .f32 0xFF800000#32) e Finset.univ)))
    (∑ k, Ideal.exp (e k - max (Ideal.ofBits .f32 0xFF800000#32) (Finset.fold max (Ideal.ofBits .f32 0xFF800000#32) e Finset.univ)))

def logGateRef (l z : EReal) : EReal := Ideal.log (l + (1 - l) * logi z)

def keyRef (l z : EReal) : EReal := 1 - (l + (1 - l) * logi z)

/-- The logarithm of the logistic function through the softplus function of the opposite argument. -/
def logSigRef (z : EReal) : EReal := -(max (-z) 0 + Ideal.log1p (Ideal.exp (-max (-z) (- -z))))

end Cert.Proj
-- ==== Proof.Inproj.Block.lean ====
module

public import proofs.«01_k».proof.Proof.Inproj.BodyIdeal
public import proofs.«01_k».proof.Proof.Inproj.Spec
public import Idealize.ShloMosaic.Lib.Pointwise
public import Idealize.ShloMosaic.Lib.Pipeline.ValueKit

@[expose] public section

set_option maxRecDepth 16384

noncomputable section

/-! What one grid point of the input projections computes: two halves of 512 tokens, each token by `Spec`'s functions. -/

namespace Cert.Proj

open Cert.InprojIdeal Cert.InprojIdeal.Gen Cert.InprojIdeal.Run Idealize.ShloMosaic Idealize.ShloMosaic.TcCoe Cert.Tail

/-- The rows and matrices of a vector. -/
abbrev row {n p : ℕ} (x : (⟨2, ![n, p]⟩ : Shape).Idx → EReal) (r : Fin n) : Fin p → EReal := fun k => x (ix2 r k)
abbrev mat {n p : ℕ} (x : (⟨2, ![n, p]⟩ : Shape).Idx → EReal) : Fin n → Fin p → EReal := fun a b => x (ix2 a b)

variable (x : Vec Ideal S1024x1024 .f32) (g b : Vec Ideal S1x1024 .f32) (e : Vec Ideal S2x512 .f32) (f : Vec Ideal S1x128 .f32)
  (w : Vec Ideal S1024x512 .bf16) (u : Vec Ideal S512x1024 .bf16) (w128 : Vec Ideal S1024x128 .bf16) (w1024 : Vec Ideal S1024x1024 .bf16)

/-- The normed row `r` of the block, and the lower bound of column `j`. -/
abbrev normed (r : Fin 1024) : Fin 1024 → EReal := lnRow (row x r) (row g 0) (row b 0)
abbrev bound (j : Fin 512) : EReal := Cert.Proj.share (fun k => e (ix2 k j))

theorem top_apply (r : Fin 512) (j : Fin 1024) : top (F := Ideal) x g b (ix2 r j) = normed x g b ⟨r, by omega⟩ j := by
  pointwise [top, k0_pay3]
  rfl

theorem bottom_apply (r : Fin 512) (j : Fin 1024) : bottom (F := Ideal) x g b (ix2 r j) = normed x g b ⟨512 + r, by omega⟩ j := by
  pointwise [bottom, k0_pay20]
  rfl

theorem pay3_apply (r : Fin 512) (j : Fin 1024) : k0_pay3 (F := Ideal) (View.ld x lo1024) (View.ld g vec) (View.ld b vec) (ix2 r j)
    = normed x g b ⟨r, by omega⟩ j := top_apply ..

theorem pay20_apply (r : Fin 512) (j : Fin 1024) : k0_pay20 (F := Ideal) (View.ld x hi1024) (View.ld g vec) (View.ld b vec) (ix2 r j)
    = normed x g b ⟨512 + r, by omega⟩ j := bottom_apply ..

theorem bound_apply (j : Fin 512) : Run.share (F := Ideal) e (ix2 0 j) = bound e j := by
  pointwise [Run.share, k0_pay2]
  rfl

/-! `hgQ` -/

theorem hgQ_lo (r : Fin 512) (j : Fin 512) : k0_pay5 (F := Ideal) (k0_pay4 (View.ld x lo1024) (View.ld g vec) (View.ld b vec) (View.ld w mat512)) (Scalar.ofBits .f32 0x3F000000#32) (ix2 r j)
    = siluTanh (mv (normed x g b ⟨r, by omega⟩) (mat w) j) := by
  pointwise [k0_pay5, k0_pay4]
  simp only [pay3_apply, pay20_apply]
  rfl

theorem hgQ_hi (r : Fin 512) (j : Fin 512) : k0_pay22 (F := Ideal) (k0_pay21 (View.ld x hi1024) (View.ld g vec) (View.ld b vec) (View.ld w mat512)) (ix2 r j)
    = siluTanh (mv (normed x g b ⟨512 + r, by omega⟩) (mat w) j) := by
  pointwise [k0_pay22, k0_pay21]
  simp only [pay3_apply, pay20_apply]
  rfl

theorem hgQ_apply (R : Fin 1024) (j : Fin 512) : hgQ (F := Ideal) x g b w (ix2 R j) = siluTanh (mv (normed x g b R) (mat w) j) := by
  unfold hgQ
  canon_tiles y h
  · idx_vars y
    have hr : R = ⟨512 + y0.1, by omega⟩ := Fin.ext h0
    have hj : j = y1 := Fin.ext h1
    rw [hr, hj]
    exact hgQ_hi ..
  · idx_vars y
    have hr : R = ⟨y0.1, by omega⟩ := Fin.ext h0
    have hj : j = y1 := Fin.ext h1
    rw [hr, hj]
    exact hgQ_lo ..

/-! `hgG` -/

theorem hgG_lo (r : Fin 512) (j : Fin 512) : k0_pay7 (F := Ideal) (Run.share e) (top x g b) (View.ld w mat512) (ix2 r j)
    = logGate (bound e j) (mv (normed x g b ⟨r, by omega⟩) (mat w) j) := by
  pointwise [k0_pay7, k0_pay6]
  simp only [top_apply, bottom_apply, bound_apply]
  rfl

theorem hgG_hi (r : Fin 512) (j : Fin 512) : k0_pay24 (F := Ideal) (Run.share e) (bottom x g b) (View.ld w mat512) (ix2 r j)
    = logGate (bound e j) (mv (normed x g b ⟨512 + r, by omega⟩) (mat w) j) := by
  pointwise [k0_pay24, k0_pay23]
  simp only [top_apply, bottom_apply, bound_apply]
  rfl

theorem hgG_apply (R : Fin 1024) (j : Fin 512) : hgG (F := Ideal) x g b e w (ix2 R j) = logGate (bound e j) (mv (normed x g b R) (mat w) j) := by
  unfold hgG
  canon_tiles y h
  · idx_vars y
    have hr : R = ⟨512 + y0.1, by omega⟩ := Fin.ext h0
    have hj : j = y1 := Fin.ext h1
    rw [hr, hj]
    exact hgG_hi ..
  · idx_vars y
    have hr : R = ⟨y0.1, by omega⟩ := Fin.ext h0
    have hj : j = y1 := Fin.ext h1
    rw [hr, hj]
    exact hgG_lo ..

/-! `hgK` -/

theorem hgK_lo (r : Fin 512) (j : Fin 512) : k0_pay8 (F := Ideal) (Run.share e) (top x g b) (View.ld w mat512) (ix2 r j)
    = keyOf (bound e j) (mv (normed x g b ⟨r, by omega⟩) (mat w) j) := by
  pointwise [k0_pay8, k0_pay6]
  simp only [top_apply, bottom_apply, bound_apply]
  rfl

theorem hgK_hi (r : Fin 512) (j : Fin 512) : k0_pay25 (F := Ideal) (Run.share e) (bottom x g b) (View.ld w mat512) (ix2 r j)
    = keyOf (bound e j) (mv (normed x g b ⟨512 + r, by omega⟩) (mat w) j) := by
  pointwise [k0_pay25, k0_pay23]
  simp only [top_apply, bottom_apply, bound_apply]
  rfl

theorem hgK_apply (R : Fin 1024) (j : Fin 512) : hgK (F := Ideal) x g b e w (ix2 R j) = keyOf (bound e j) (mv (normed x g b R) (mat w) j) := by
  unfold hgK
  canon_tiles y h
  · idx_vars y
    have hr : R = ⟨512 + y0.1, by omega⟩ := Fin.ext h0
    have hj : j = y1 := Fin.ext h1
    rw [hr, hj]
    exact hgK_hi ..
  · idx_vars y
    have hr : R = ⟨y0.1, by omega⟩ := Fin.ext h0
    have hj : j = y1 := Fin.ext h1
    rw [hr, hj]
    exact hgK_lo ..

/-! `hgI` -/

theorem hgI_lo (r : Fin 512) (j : Fin 512) : k0_pay10 (F := Ideal) (top x g b) (k0_pay9 (View.ld w mat512)) (ix2 r j)
    = mv (normed x g b ⟨r, by omega⟩) (mat w) j := by
  pointwise [k0_pay10, k0_pay9]
  simp only [top_apply, bottom_apply, bound_apply]
  rfl

theorem hgI_hi (r : Fin 512) (j : Fin 512) : k0_pay26 (F := Ideal) (bottom x g b) (View.ld w mat512) (ix2 r j)
    = mv (normed x g b ⟨512 + r, by omega⟩) (mat w) j := by
  pointwise [k0_pay26]
  simp only [top_apply, bottom_apply, bound_apply]
  rfl

theorem hgI_apply (R : Fin 1024) (j : Fin 512) : hgI (F := Ideal) x g b w (ix2 R j) = mv (normed x g b R) (mat w) j := by
  unfold hgI
  canon_tiles y h
  · idx_vars y
    have hr : R = ⟨512 + y0.1, by omega⟩ := Fin.ext h0
    have hj : j = y1 := Fin.ext h1
    rw [hr, hj]
    exact hgI_hi ..
  · idx_vars y
    have hr : R = ⟨y0.1, by omega⟩ := Fin.ext h0
    have hj : j = y1 := Fin.ext h1
    rw [hr, hj]
    exact hgI_lo ..

/-! `hgGate` -/

theorem hgGate_lo (r : Fin 512) (j : Fin 512) : k0_pay11 (F := Ideal) (top x g b) (View.ld w mat512) (ix2 r j)
    = siluTanh (mv (normed x g b ⟨r, by omega⟩) (mat w) j) := by
  pointwise [k0_pay11]
  simp only [top_apply, bottom_apply, bound_apply]
  rfl

theorem hgGate_hi (r : Fin 512) (j : Fin 512) : k0_pay27 (F := Ideal) (bottom x g b) (View.ld w mat512) (ix2 r j)
    = siluTanh (mv (normed x g b ⟨512 + r, by omega⟩) (mat w) j) := by
  pointwise [k0_pay27]
  simp only [top_apply, bottom_apply, bound_apply]
  rfl

theorem hgGate_apply (R : Fin 1024) (j : Fin 512) : hgGate (F := Ideal) x g b w (ix2 R j) = siluTanh (mv (normed x g b R) (mat w) j) := by
  unfold hgGate
  canon_tiles y h
  · idx_vars y
    have hr : R = ⟨512 + y0.1, by omega⟩ := Fin.ext h0
    have hj : j = y1 := Fin.ext h1
    rw [hr, hj]
    exact hgGate_hi ..
  · idx_vars y
    have hr : R = ⟨y0.1, by omega⟩ := Fin.ext h0
    have hj : j = y1 := Fin.ext h1
    rw [hr, hj]
    exact hgGate_lo ..

/-! `fxQ` -/

theorem fxQ_lo (r : Fin 512) (j : Fin 512) : k0_pay12 (F := Ideal) (top x g b) (View.ld u tr512) (ix2 j r)
    = vm (mat u) (normed x g b ⟨r, by omega⟩) j * scale := by
  pointwise [k0_pay12]
  simp only [top_apply, bottom_apply, bound_apply]
  rfl

theorem fxQ_hi (r : Fin 512) (j : Fin 512) : k0_pay28 (F := Ideal) (bottom x g b) (View.ld u tr512) (ix2 j r)
    = vm (mat u) (normed x g b ⟨512 + r, by omega⟩) j * scale := by
  pointwise [k0_pay28]
  simp only [top_apply, bottom_apply, bound_apply]
  rfl

theorem fxQ_apply (R : Fin 1024) (j : Fin 512) : fxQ (F := Ideal) x g b u (ix2 j R) = vm (mat u) (normed x g b R) j * scale := by
  unfold fxQ
  canon_tiles y h
  · idx_vars y
    have hr : R = ⟨512 + y1.1, by omega⟩ := Fin.ext h1
    have hj : j = y0 := Fin.ext h0
    rw [hr, hj]
    exact fxQ_hi ..
  · idx_vars y
    have hr : R = ⟨y1.1, by omega⟩ := Fin.ext h1
    have hj : j = y0 := Fin.ext h0
    rw [hr, hj]
    exact fxQ_lo ..

/-! `fxK` -/

theorem fxK_lo (r : Fin 512) (j : Fin 512) : k0_pay13 (F := Ideal) (top x g b) (View.ld w mat512) (ix2 r j)
    = mv (normed x g b ⟨r, by omega⟩) (mat w) j := by
  pointwise [k0_pay13]
  simp only [top_apply, bottom_apply, bound_apply]
  rfl

theorem fxK_hi (r : Fin 512) (j : Fin 512) : k0_pay29 (F := Ideal) (bottom x g b) (View.ld w mat512) (ix2 r j)
    = mv (normed x g b ⟨512 + r, by omega⟩) (mat w) j := by
  pointwise [k0_pay29]
  simp only [top_apply, bottom_apply, bound_apply]
  rfl

theorem fxK_apply (R : Fin 1024) (j : Fin 512) : fxK (F := Ideal) x g b w (ix2 R j) = mv (normed x g b R) (mat w) j := by
  unfold fxK
  canon_tiles y h
  · idx_vars y
    have hr : R = ⟨512 + y0.1, by omega⟩ := Fin.ext h0
    have hj : j = y1 := Fin.ext h1
    rw [hr, hj]
    exact fxK_hi ..
  · idx_vars y
    have hr : R = ⟨y0.1, by omega⟩ := Fin.ext h0
    have hj : j = y1 := Fin.ext h1
    rw [hr, hj]
    exact fxK_lo ..

/-! `fxV` -/

theorem fxV_lo (r : Fin 512) (j : Fin 512) : k0_pay15 (F := Ideal) (k0_pay14 (top x g b) (View.ld u tr512)) (ix2 j r)
    = vm (mat u) (normed x g b ⟨r, by omega⟩) j := by
  pointwise [k0_pay15, k0_pay14]
  simp only [top_apply, bottom_apply, bound_apply]
  rfl

theorem fxV_hi (r : Fin 512) (j : Fin 512) : k0_pay31 (F := Ideal) (bottom x g b) (k0_pay30 (View.ld u tr512)) (constant S512x512 .f32 0x00000000#32) (ix2 j r)
    = vm (mat u) (normed x g b ⟨512 + r, by omega⟩) j := by
  pointwise [k0_pay31, k0_pay30]
  simp only [top_apply, bottom_apply, bound_apply]
  rfl

theorem fxV_apply (R : Fin 1024) (j : Fin 512) : fxV (F := Ideal) x g b u (ix2 j R) = vm (mat u) (normed x g b R) j := by
  unfold fxV
  canon_tiles y h
  · idx_vars y
    have hr : R = ⟨512 + y1.1, by omega⟩ := Fin.ext h1
    have hj : j = y0 := Fin.ext h0
    rw [hr, hj]
    exact fxV_hi ..
  · idx_vars y
    have hr : R = ⟨y1.1, by omega⟩ := Fin.ext h1
    have hj : j = y0 := Fin.ext h0
    rw [hr, hj]
    exact fxV_lo ..

/-! `fxLog` -/

theorem fxLog_lo (r : Fin 512) (j : Fin 128) : k0_pay16 (F := Ideal) (top x g b) (View.ld w128 mat128) (View.ld f vec128) (ix2 r j)
    = logSig (mv (normed x g b ⟨r, by omega⟩) (mat w128) j + f (ix2 0 j)) := by
  pointwise [k0_pay16]
  simp only [top_apply, bottom_apply, bound_apply]
  rfl

theorem fxLog_hi (r : Fin 512) (j : Fin 128) : k0_pay32 (F := Ideal) (bottom x g b) (View.ld w128 mat128) (View.ld f vec128) (ix2 r j)
    = logSig (mv (normed x g b ⟨512 + r, by omega⟩) (mat w128) j + f (ix2 0 j)) := by
  pointwise [k0_pay32]
  simp only [top_apply, bottom_apply, bound_apply]
  rfl

theorem fxLog_apply (R : Fin 1024) (j : Fin 128) : fxLog (F := Ideal) x g b w128 f (ix2 R j) = logSig (mv (normed x g b R) (mat w128) j + f (ix2 0 j)) := by
  unfold fxLog
  canon_tiles y h
  · idx_vars y
    have hr : R = ⟨512 + y0.1, by omega⟩ := Fin.ext h0
    have hj : j = y1 := Fin.ext h1
    rw [hr, hj]
    exact fxLog_hi ..
  · idx_vars y
    have hr : R = ⟨y0.1, by omega⟩ := Fin.ext h0
    have hj : j = y1 := Fin.ext h1
    rw [hr, hj]
    exact fxLog_lo ..

/-! `gateA` -/

theorem gateA_lo (r : Fin 512) (j : Fin 1024) : k0_pay17 (F := Ideal) (top x g b) (View.ld w1024 mat1024) (ix2 r j)
    = gateTanh (mv (normed x g b ⟨r, by omega⟩) (mat w1024) j) := by
  pointwise [k0_pay17]
  simp only [top_apply, bottom_apply, bound_apply]
  rfl

theorem gateA_hi (r : Fin 512) (j : Fin 1024) : k0_pay33 (F := Ideal) (bottom x g b) (View.ld w1024 mat1024) (ix2 r j)
    = gateTanh (mv (normed x g b ⟨512 + r, by omega⟩) (mat w1024) j) := by
  pointwise [k0_pay33]
  simp only [top_apply, bottom_apply, bound_apply]
  rfl

theorem gateA_apply (R : Fin 1024) (j : Fin 1024) : gateA (F := Ideal) x g b w1024 (ix2 R j) = gateTanh (mv (normed x g b R) (mat w1024) j) := by
  unfold gateA
  canon_tiles y h
  · idx_vars y
    have hr : R = ⟨512 + y0.1, by omega⟩ := Fin.ext h0
    have hj : j = y1 := Fin.ext h1
    rw [hr, hj]
    exact gateA_hi ..
  · idx_vars y
    have hr : R = ⟨y0.1, by omega⟩ := Fin.ext h0
    have hj : j = y1 := Fin.ext h1
    rw [hr, hj]
    exact gateA_lo ..

/-! `gateB` -/

theorem gateB_lo (r : Fin 512) (j : Fin 1024) : k0_pay19 (F := Ideal) (top x g b) (k0_pay18 (View.ld w1024 mat1024)) (constant S512x1024 .f32 0x00000000#32) (ix2 r j)
    = gateTanh (mv (normed x g b ⟨r, by omega⟩) (mat w1024) j) := by
  pointwise [k0_pay19, k0_pay18]
  simp only [top_apply, bottom_apply, bound_apply]
  rfl

theorem gateB_hi (r : Fin 512) (j : Fin 1024) : k0_pay1 (F := Ideal) (bottom x g b) (k0_pay34 (View.ld w1024 mat1024)) (ix2 r j)
    = gateTanh (mv (normed x g b ⟨512 + r, by omega⟩) (mat w1024) j) := by
  pointwise [k0_pay1, k0_pay34]
  simp only [top_apply, bottom_apply, bound_apply]
  rfl

theorem gateB_apply (R : Fin 1024) (j : Fin 1024) : gateB (F := Ideal) x g b w1024 (ix2 R j) = gateTanh (mv (normed x g b R) (mat w1024) j) := by
  unfold gateB
  canon_tiles y h
  · idx_vars y
    have hr : R = ⟨512 + y0.1, by omega⟩ := Fin.ext h0
    have hj : j = y1 := Fin.ext h1
    rw [hr, hj]
    exact gateB_hi ..
  · idx_vars y
    have hr : R = ⟨y0.1, by omega⟩ := Fin.ext h0
    have hj : j = y1 := Fin.ext h1
    rw [hr, hj]
    exact gateB_lo ..

end Cert.Proj
-- ==== Proof.Inproj.Ref.lean ====
module

public import proofs.«01_k».proof.Proof.Gen.InprojRefIdeal.Read
public import proofs.«01_k».proof.Proof.Inproj.Spec
public import Idealize.ShloMosaic.Lib.Pointwise

@[expose] public section

set_option maxRecDepth 16384

noncomputable section

/-! What the reference of the input projections computes for one token. -/

namespace Cert.Proj

open Cert.InprojRefIdeal Cert.InprojRefIdeal.Gen Idealize.ShloMosaic Idealize.ShloMosaic.TcCoe Cert.Tail
open Cert.InprojRefIdeal.Read

/-- Row `R` of an array of 16 sequences of 4096 rows. -/
abbrev tok {n : ℕ} (x : (⟨3, ![16, 4096, n]⟩ : Shape).Idx → EReal) (R : Fin 65536) : Fin n → EReal :=
  fun k => x (ix3 ⟨R.1 / 4096, by omega⟩ ⟨R.1 % 4096, by omega⟩ k)

/-- The columns of the weight from `o` on. -/
abbrev cols (x : (⟨3, ![1, 1024, 5640]⟩ : Shape).Idx → EReal) (n o : ℕ) (h : o + n ≤ 5640) : Fin 1024 → Fin n → EReal :=
  fun k j => x (ix3 0 k ⟨o + j.1, by omega⟩)

variable (x0 : FVec Ideal S16x4096x1024 .f32) (x1 x2 : FVec Ideal S1024 .f32) (x3 : FVec Ideal S1x1024x5640 .f32)
  (x4 : FVec Ideal S2x512 .f32) (x5 : FVec Ideal S1x8 .f32)

/-- Token `R`'s normed row. -/
def hTok (R : Fin 65536) : Fin 1024 → EReal := lnRow (tok x0 R) (fun k => x1 (ix1 k)) (fun k => x2 (ix1 k))

theorem ref_h (R : Fin 65536) (j : Fin 1024) : val_main_v24 (F := Ideal) x0 x1 x2 (ix2 R j) = hTok x0 x1 x2 R j := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

/-- The projection of token `R`, at column `j`. -/
theorem ref_proj (R : Fin 65536) (j : Fin 5640) : val_main_v26 (F := Ideal) x0 x1 x2 x3 (ix2 R j) = mv (hTok x0 x1 x2 R) (fun k n => x3 (ix3 0 k n)) j := by
  pointwise [val_main_v26, val_main_v25]
  simp only [ref_h]
  rfl

/-- One share of the softmax over the two logits. -/
theorem ref_soft (k : Fin 2) (j : Fin 512) : val_main_v47 (F := Ideal) x4 (ix2 k j)
    = Ideal.div (Ideal.exp (x4 (ix2 k j) - max (Ideal.ofBits .f32 0xFF800000#32) (Finset.fold max (Ideal.ofBits .f32 0xFF800000#32) (fun i => x4 (ix2 i j)) Finset.univ)))
      (∑ i, Ideal.exp (x4 (ix2 i j) - max (Ideal.ofBits .f32 0xFF800000#32) (Finset.fold max (Ideal.ofBits .f32 0xFF800000#32) (fun i => x4 (ix2 i j)) Finset.univ))) := by
  pointwise [val_main_v47, val_main_v46, val_main_v45, val_main_v44, val_main_v43, val_main_v42, val_main_v41, val_main_v40, val_main_v39, val_main_v38, val_main_v37, val_main_cst_4, val_main_cst_5, val_main_cst_6]

/-! The running sum over the two layers, at the first. -/

theorem pos0 : ((⟨2, ![2, 1]⟩ : Shape).rowMajor.symm (⟨0, by decide⟩)) = ix2 0 0 := by decide
theorem pos1 : ((⟨2, ![2, 1]⟩ : Shape).rowMajor.symm (⟨1, by decide⟩)) = ix2 1 0 := by decide

theorem window_apply (x : FVec Ideal S2x512 .f32) (v : FVec Ideal S_ .f32) (j : Fin 512) :
    Host.reduceWindowAdd ![2, 1] ![1, 1] ![1, 0] ![0, 0] x v reduceWindows_S2x512_S2x512_w2s1p1_0_w1s1p0_0 h_S_ (ix2 0 j)
      = v ix0 + v ix0 + x (ix2 0 j) := by
  show Ideal.hostReduceWindowAdd (s := S2x512) ![2, 1] ![1, 1] ![1, 0] ![0, 0] reduceWindows_S2x512_S2x512_w2s1p1_0_w1s1p0_0 x (v _) (ix2 0 j) = _
  unfold Ideal.hostReduceWindowAdd Host.reduceWindow
  show List.foldl _ _ (List.finRange (⟨2, ![2, 1]⟩ : Shape).numel) = _
  rw [show List.finRange (⟨2, ![2, 1]⟩ : Shape).numel = [⟨0, by decide⟩, ⟨1, by decide⟩] from by decide]
  simp only [List.foldl_cons, List.foldl_nil]
  rw [dif_neg (fun h => absurd (h 0).1 (by rw [pos0]; simp [ix2])), dif_pos]
  · rw [show Shape.Idx.first h_S_ = ix0 from Subsingleton.elim _ _]
    congr 2
    funext a
    refine Fin.ext ?_
    dsimp only
    rw [pos1]
    fin_cases a <;> simp [ix2]
  · intro a
    rw [pos1]
    fin_cases a <;> simp [ix2]
theorem zero_init : val_main_call0_call0_v0 (F := Ideal) ix0 = 0 := by
  pointwise [val_main_call0_call0_v0, val_main_call0_call0_cst]

theorem ref_share (j : Fin 512) : val_main_v50 (F := Ideal) x4 (ix1 j) = shareRef (fun k => x4 (ix2 k j)) := by
  pointwise [val_main_v50, val_main_v49]
  refine (window_apply _ _ j).trans ?_
  rw [ref_soft, zero_init, add_zero, zero_add]
  rfl

theorem ref_q (R : Fin 65536) (j : Fin 512) : val_main_v72 (F := Ideal) x0 x1 x2 x3 (ix2 R j)
    = (mv (hTok x0 x1 x2 R) (cols x3 512 0 (by omega)) j) * logi (mv (hTok x0 x1 x2 R) (cols x3 512 0 (by omega)) j) := by
  pointwise [val_main_v72, val_main_v71, val_main_call3_v5, val_main_call3_v4, val_main_call3_cst_0, val_main_call3_v3, val_main_call3_v2, val_main_call3_cst, val_main_call3_v1, val_main_call3_v0, val_main_v27]
  simp only [ref_proj]
  simp only [mv, logi, cols, Nat.zero_add]

theorem ref_g (R : Fin 65536) (j : Fin 512) : val_main_v73 (F := Ideal) x0 x1 x2 x3 x4 (ix2 R j)
    = logGateRef (shareRef (fun k => x4 (ix2 k j))) (mv (hTok x0 x1 x2 R) (cols x3 512 512 (by omega)) j) := by
  pointwise [val_main_v73, val_main_v64, val_main_v63, val_main_v62, val_main_v61, val_main_v60, val_main_v59, val_main_v58, val_main_v57, val_main_v56, val_main_v55, val_main_v54, val_main_v53, val_main_v52, val_main_v51, val_main_v28, val_main_cst_7, val_main_cst_8, val_main_cst_9]
  simp only [ref_proj, ref_share]
  rfl

theorem ref_k (R : Fin 65536) (j : Fin 512) : val_main_v76 (F := Ideal) x0 x1 x2 x3 x4 (ix2 R j)
    = keyRef (shareRef (fun k => x4 (ix2 k j))) (mv (hTok x0 x1 x2 R) (cols x3 512 512 (by omega)) j) := by
  pointwise [val_main_v76, val_main_v75, val_main_v74, val_main_cst_10, val_main_v64, val_main_v63, val_main_v62, val_main_v61, val_main_v60, val_main_v59, val_main_v58, val_main_v57, val_main_v56, val_main_v55, val_main_v54, val_main_v53, val_main_v52, val_main_v51, val_main_v28, val_main_cst_7, val_main_cst_8, val_main_cst_9]
  simp only [ref_proj, ref_share]
  rfl

theorem ref_i (R : Fin 65536) (j : Fin 512) : val_main_v77 (F := Ideal) x0 x1 x2 x3 (ix2 R j)
    = mv (hTok x0 x1 x2 R) (cols x3 512 1024 (by omega)) j := by
  pointwise [val_main_v77, val_main_v29]
  simp only [ref_proj]
  rfl

theorem ref_gate (R : Fin 65536) (j : Fin 512) : val_main_v79 (F := Ideal) x0 x1 x2 x3 (ix2 R j)
    = (mv (hTok x0 x1 x2 R) (cols x3 512 1536 (by omega)) j) * logi (mv (hTok x0 x1 x2 R) (cols x3 512 1536 (by omega)) j) := by
  pointwise [val_main_v79, val_main_v78, val_main_call4_v5, val_main_call4_v4, val_main_call4_cst_0, val_main_call4_v3, val_main_call4_v2, val_main_call4_cst, val_main_call4_v1, val_main_call4_v0, val_main_v30]
  simp only [ref_proj]
  rfl

theorem ref_fq (R : Fin 65536) (j : Fin 512) : val_main_v83 (F := Ideal) x0 x1 x2 x3 (ix2 j R)
    = (mv (hTok x0 x1 x2 R) (cols x3 512 2048 (by omega)) j) * scale := by
  pointwise [val_main_v83, val_main_v82, val_main_v81, val_main_v80, val_main_v31, val_main_cst_11]
  simp only [ref_proj]
  rfl

theorem ref_fk (R : Fin 65536) (j : Fin 512) : val_main_v84 (F := Ideal) x0 x1 x2 x3 (ix2 R j)
    = mv (hTok x0 x1 x2 R) (cols x3 512 2560 (by omega)) j := by
  pointwise [val_main_v84, val_main_v32]
  simp only [ref_proj]
  rfl

theorem ref_fv (R : Fin 65536) (j : Fin 512) : val_main_v86 (F := Ideal) x0 x1 x2 x3 (ix2 j R)
    = mv (hTok x0 x1 x2 R) (cols x3 512 3072 (by omega)) j := by
  pointwise [val_main_v86, val_main_v85, val_main_v33]
  simp only [ref_proj]
  rfl

/-- The pre-activation of the attention's forget gate on a lane, zero on the lanes past the heads. -/
def fPre (R : Fin 65536) (j : Fin 128) : EReal :=
  if h : j.1 < 8 then mv (hTok x0 x1 x2 R) (cols x3 8 3584 (by omega)) ⟨j, h⟩ + x5 (ix2 0 ⟨j, h⟩) else 0

theorem ref_f (R : Fin 65536) (j : Fin 8) : val_main_v68 (F := Ideal) x0 x1 x2 x3 x5 (ix2 R j)
    = mv (hTok x0 x1 x2 R) (cols x3 8 3584 (by omega)) j + x5 (ix2 0 j) := by
  pointwise [val_main_v68, val_main_v67, val_main_v66, val_main_v65, val_main_v34]
  simp only [ref_proj]
  rfl

theorem word_zero : (FloatOps.sitofp (F := Ideal) FTy.f32 0#32 : EReal) = 0 := by
  show (((0#32).toInt : ℝ) : EReal) = 0
  simp

theorem ref_pad (R : Fin 65536) (j : Fin 128) : val_main_v69 (F := Ideal) x0 x1 x2 x3 x5 (ix2 R j)
    = fPre x0 x1 x2 x3 x5 R j := by
  pointwise [val_main_v69, val_main_call1_v0, val_main_c]
  simp only [ref_f, word_zero]
  rfl

theorem ref_lf (R : Fin 65536) (j : Fin 128) : val_main_v70 (F := Ideal) x0 x1 x2 x3 x5 (ix2 R j)
    = logSigRef (fPre x0 x1 x2 x3 x5 R j) := by
  pointwise [val_main_v70, val_main_call2_v1, val_main_call2_call0_v11, val_main_call2_call0_v10, val_main_call2_call0_v9, val_main_call2_call0_v8, val_main_call2_call0_v7, val_main_call2_call0_v6, val_main_call2_call0_v5, val_main_call2_call0_v4, val_main_call2_call0_v3, val_main_call2_call0_v2, val_main_call2_call0_v1, val_main_call2_call0_v0, val_main_call2_call0_cst, val_main_call2_v0]
  simp only [ref_pad, ne_eq, not_true_eq_false, if_false]
  rfl

theorem ref_a (R : Fin 65536) (j : Fin 1024) : val_main_v93 (F := Ideal) x0 x1 x2 x3 (ix2 R j)
    = logi (mv (hTok x0 x1 x2 R) (cols x3 1024 3592 (by omega)) j) := by
  pointwise [val_main_v93, val_main_v92, val_main_v91, val_main_v90, val_main_v89, val_main_v88, val_main_v87, val_main_cst_12, val_main_cst_13, val_main_v35]
  simp only [ref_proj]
  rfl

theorem ref_b (R : Fin 65536) (j : Fin 1024) : val_main_v100 (F := Ideal) x0 x1 x2 x3 (ix2 R j)
    = logi (mv (hTok x0 x1 x2 R) (cols x3 1024 4616 (by omega)) j) := by
  pointwise [val_main_v100, val_main_v99, val_main_v98, val_main_v97, val_main_v96, val_main_v95, val_main_v94, val_main_cst_14, val_main_cst_15, val_main_v36]
  simp only [ref_proj]
  rfl

end Cert.Proj
-- ==== Proof.Inproj.Windows.lean ====
module

public import proofs.«01_k».proof.Proof.Inproj.Block
public import proofs.«01_k».proof.Proof.Inproj.Ref
public import Idealize.ShloMosaic.Lib.Claim
public import Idealize.ShloMosaic.Lib.StableHlo.ReadAt
public import Idealize.ShloMosaic.Lib.Pipeline.ValueKit.Point

@[expose] public section

set_option maxRecDepth 16384

noncomputable section

/-! What each window of the input projections holds at grid point `t`: rows `1024 t` to `1024 t + 1023`, and whole weights. -/

namespace Cert.Proj

open Cert.InprojIdeal Cert.InprojIdeal.Gen Idealize.ShloMosaic Idealize.ShloMosaic.TcCoe Cert.Tail

variable (m : (ℓ : Loc nD τ sig) → Buf (Elt Ideal) ℓ) (c : Dev nD)

/-- The array row that is row `r` of point `t`'s block. -/
abbrev tokOf (t : Fin cfg0.N) (r : Fin 1024) : Fin 65536 := ⟨1024 * t.1 + r.1, by have := t.2; have h : cfg0.N = 64 := rfl; omega⟩

theorem idx_row : ∀ t : Fin cfg0.N, win0_0.index t = ![t.1, 0] ∧ win0_15.index t = ![t.1, 0] ∧ win0_16.index t = ![t.1, 0] ∧ win0_17.index t = ![t.1, 0] ∧ win0_18.index t = ![t.1, 0] ∧ win0_19.index t = ![t.1, 0] ∧ win0_21.index t = ![t.1, 0] ∧ win0_23.index t = ![t.1, 0] ∧ win0_24.index t = ![t.1, 0] ∧ win0_25.index t = ![t.1, 0] :=
  (by decide +kernel : ∀ t : Fin grid0.N, win0_0.index t = ![t.1, 0] ∧ win0_15.index t = ![t.1, 0] ∧ win0_16.index t = ![t.1, 0] ∧ win0_17.index t = ![t.1, 0] ∧ win0_18.index t = ![t.1, 0] ∧ win0_19.index t = ![t.1, 0] ∧ win0_21.index t = ![t.1, 0] ∧ win0_23.index t = ![t.1, 0] ∧ win0_24.index t = ![t.1, 0] ∧ win0_25.index t = ![t.1, 0])

theorem idx_col : ∀ t : Fin cfg0.N, win0_20.index t = ![0, t.1] ∧ win0_22.index t = ![0, t.1] :=
  (by decide +kernel : ∀ t : Fin grid0.N, win0_20.index t = ![0, t.1] ∧ win0_22.index t = ![0, t.1])

theorem idx_whole : ∀ t : Fin cfg0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0])

/-- Token `R`'s normed row, from the arguments. -/
abbrev hK (R : Fin 65536) : Fin 1024 → EReal := hTok (m ((c : Thread nD τ).loc main_arg0)) (m ((c : Thread nD τ).loc main_arg1)) (m ((c : Thread nD τ).loc main_arg2)) R

/-- The weight's `n` columns from column `o` on. -/
abbrev wK (n o : ℕ) (h : o + n ≤ 5640) : Fin 1024 → Fin n → EReal := cols (m ((c : Thread nD τ).loc main_arg3)) n o h

/-- The lower bound of column `j`. -/
abbrev lK (j : Fin 512) : EReal := share (fun k => (m ((c : Thread nD τ).loc main_arg4)) (ix2 k j))

/-- The weight and the shift of the attention's forget gates, zero on the lanes past the heads. -/
def wF (k : Fin 1024) (j : Fin 128) : EReal := if h : j.1 < 8 then wK m c 8 3584 (by omega) k ⟨j, h⟩ else 0
def bF (j : Fin 128) : EReal := if h : j.1 < 8 then (m ((c : Thread nD τ).loc main_arg5)) (ix2 0 ⟨j, h⟩) else 0

/-! The arrays that the host part before the kernel leaves, at an index. -/

theorem V27 (R : Fin 65536) (k : Fin 1024) : V m c main_v27 (ix2 R k) = tok (m ((c : Thread nD τ).loc main_arg0)) R k := by
  unfold V
  simp only [List.flatten_cons, List.flatten_nil, List.append_nil, hostOps0, hostOps0_1, hostOps0_2, hostOps0_3, hostOps0_4, List.cons_append, List.nil_append]
  after_reads_at

theorem V28 (k : Fin 1024) : V m c main_v28 (ix2 0 k) = (m ((c : Thread nD τ).loc main_arg1)) (ix1 k) := by
  unfold V
  simp only [List.flatten_cons, List.flatten_nil, List.append_nil, hostOps0, hostOps0_1, hostOps0_2, hostOps0_3, hostOps0_4, List.cons_append, List.nil_append]
  after_reads_at

theorem V29 (k : Fin 1024) : V m c main_v29 (ix2 0 k) = (m ((c : Thread nD τ).loc main_arg2)) (ix1 k) := by
  unfold V
  simp only [List.flatten_cons, List.flatten_nil, List.append_nil, hostOps0, hostOps0_1, hostOps0_2, hostOps0_3, hostOps0_4, List.cons_append, List.nil_append]
  after_reads_at

theorem V14 (j : Fin 128) : V m c main_v14 (ix2 0 j) = bF m c j := by
  unfold V
  simp only [List.flatten_cons, List.flatten_nil, List.append_nil, hostOps0, hostOps0_1, hostOps0_2, hostOps0_3, hostOps0_4, List.cons_append, List.nil_append]
  after_reads_at
  simp only [word_zero]
  rfl

theorem V24 (k : Fin 1024) (j : Fin 128) : V m c main_v24 (ix2 k j) = wF m c k j := by
  unfold V
  simp only [List.flatten_cons, List.flatten_nil, List.append_nil, hostOps0, hostOps0_1, hostOps0_2, hostOps0_3, hostOps0_4, List.cons_append, List.nil_append]
  after_reads_at
  simp only [word_zero]
  rfl

theorem V17 (k : Fin 1024) (j : Fin 512) : V m c main_v17 (ix2 k j) = wK m c 512 0 (by omega) k j := by
  unfold V
  simp only [List.flatten_cons, List.flatten_nil, List.append_nil, hostOps0, hostOps0_1, hostOps0_2, hostOps0_3, hostOps0_4, List.cons_append, List.nil_append]
  after_reads_at
  simp only [wK, cols, Nat.zero_add]

theorem V18 (k : Fin 1024) (j : Fin 512) : V m c main_v18 (ix2 k j) = wK m c 512 512 (by omega) k j := by
  unfold V
  simp only [List.flatten_cons, List.flatten_nil, List.append_nil, hostOps0, hostOps0_1, hostOps0_2, hostOps0_3, hostOps0_4, List.cons_append, List.nil_append]
  after_reads_at

theorem V19 (k : Fin 1024) (j : Fin 512) : V m c main_v19 (ix2 k j) = wK m c 512 1024 (by omega) k j := by
  unfold V
  simp only [List.flatten_cons, List.flatten_nil, List.append_nil, hostOps0, hostOps0_1, hostOps0_2, hostOps0_3, hostOps0_4, List.cons_append, List.nil_append]
  after_reads_at

theorem V20 (k : Fin 1024) (j : Fin 512) : V m c main_v20 (ix2 k j) = wK m c 512 1536 (by omega) k j := by
  unfold V
  simp only [List.flatten_cons, List.flatten_nil, List.append_nil, hostOps0, hostOps0_1, hostOps0_2, hostOps0_3, hostOps0_4, List.cons_append, List.nil_append]
  after_reads_at

theorem V21 (k : Fin 1024) (j : Fin 512) : V m c main_v21 (ix2 j k) = wK m c 512 2048 (by omega) k j := by
  unfold V
  simp only [List.flatten_cons, List.flatten_nil, List.append_nil, hostOps0, hostOps0_1, hostOps0_2, hostOps0_3, hostOps0_4, List.cons_append, List.nil_append]
  after_reads_at

theorem V22 (k : Fin 1024) (j : Fin 512) : V m c main_v22 (ix2 k j) = wK m c 512 2560 (by omega) k j := by
  unfold V
  simp only [List.flatten_cons, List.flatten_nil, List.append_nil, hostOps0, hostOps0_1, hostOps0_2, hostOps0_3, hostOps0_4, List.cons_append, List.nil_append]
  after_reads_at

theorem V23 (k : Fin 1024) (j : Fin 512) : V m c main_v23 (ix2 j k) = wK m c 512 3072 (by omega) k j := by
  unfold V
  simp only [List.flatten_cons, List.flatten_nil, List.append_nil, hostOps0, hostOps0_1, hostOps0_2, hostOps0_3, hostOps0_4, List.cons_append, List.nil_append]
  after_reads_at

theorem V25 (k : Fin 1024) (j : Fin 1024) : V m c main_v25 (ix2 k j) = wK m c 1024 3592 (by omega) k j := by
  unfold V
  simp only [List.flatten_cons, List.flatten_nil, List.append_nil, hostOps0, hostOps0_1, hostOps0_2, hostOps0_3, hostOps0_4, List.cons_append, List.nil_append]
  after_reads_at

theorem V26 (k : Fin 1024) (j : Fin 1024) : V m c main_v26 (ix2 k j) = wK m c 1024 4616 (by omega) k j := by
  unfold V
  simp only [List.flatten_cons, List.flatten_nil, List.append_nil, hostOps0, hostOps0_1, hostOps0_2, hostOps0_3, hostOps0_4, List.cons_append, List.nil_append]
  after_reads_at

/-! The windows' blocks of them. -/

theorem blk0 (t : Fin cfg0.N) (r : Fin 1024) (k : Fin 1024) : iblk m c 0 t (ix2 r k) = tok (m ((c : Thread nD τ).loc main_arg0)) (tokOf t r) k := by
  refine Eq.trans ?_ (V27 m c (tokOf t r) k)
  blk_ext [iblk, idx_row t]

theorem blk1 (t : Fin cfg0.N) (k : Fin 1024) : iblk m c 1 t (ix2 (0 : Fin 1) k) = (m ((c : Thread nD τ).loc main_arg1)) (ix1 k) := by
  refine Eq.trans ?_ (V28 m c k)
  blk_ext [iblk, idx_whole t]

theorem blk2 (t : Fin cfg0.N) (k : Fin 1024) : iblk m c 2 t (ix2 (0 : Fin 1) k) = (m ((c : Thread nD τ).loc main_arg2)) (ix1 k) := by
  refine Eq.trans ?_ (V29 m c k)
  blk_ext [iblk, idx_whole t]

theorem blk3 (t : Fin cfg0.N) (k : Fin 2) (j : Fin 512) : iblk m c 3 t (ix2 k j) = (m ((c : Thread nD τ).loc main_arg4)) (ix2 k j) := by
  refine Eq.trans ?_ (congrFun (V_main_arg4 m c) (ix2 k j))
  blk_ext [iblk, idx_whole t]

theorem blk4 (t : Fin cfg0.N) (j : Fin 128) : iblk m c 4 t (ix2 (0 : Fin 1) j) = bF m c j := by
  refine Eq.trans ?_ (V14 m c j)
  blk_ext [iblk, idx_whole t]

theorem blk12 (t : Fin cfg0.N) (k : Fin 1024) (j : Fin 128) : iblk m c 12 t (ix2 k j) = wF m c k j := by
  refine Eq.trans ?_ (V24 m c k j)
  blk_ext [iblk, idx_whole t]

theorem blk5 (t : Fin cfg0.N) (k : Fin 1024) (j : Fin 512) : iblk m c 5 t (ix2 k j) = wK m c 512 0 (by omega) k j := by
  refine Eq.trans ?_ (V17 m c k j)
  blk_ext [iblk, idx_whole t]

theorem blk6 (t : Fin cfg0.N) (k : Fin 1024) (j : Fin 512) : iblk m c 6 t (ix2 k j) = wK m c 512 512 (by omega) k j := by
  refine Eq.trans ?_ (V18 m c k j)
  blk_ext [iblk, idx_whole t]

theorem blk7 (t : Fin cfg0.N) (k : Fin 1024) (j : Fin 512) : iblk m c 7 t (ix2 k j) = wK m c 512 1024 (by omega) k j := by
  refine Eq.trans ?_ (V19 m c k j)
  blk_ext [iblk, idx_whole t]

theorem blk8 (t : Fin cfg0.N) (k : Fin 1024) (j : Fin 512) : iblk m c 8 t (ix2 k j) = wK m c 512 1536 (by omega) k j := by
  refine Eq.trans ?_ (V20 m c k j)
  blk_ext [iblk, idx_whole t]

theorem blk9 (t : Fin cfg0.N) (k : Fin 1024) (j : Fin 512) : iblk m c 9 t (ix2 j k) = wK m c 512 2048 (by omega) k j := by
  refine Eq.trans ?_ (V21 m c k j)
  blk_ext [iblk, idx_whole t]

theorem blk10 (t : Fin cfg0.N) (k : Fin 1024) (j : Fin 512) : iblk m c 10 t (ix2 k j) = wK m c 512 2560 (by omega) k j := by
  refine Eq.trans ?_ (V22 m c k j)
  blk_ext [iblk, idx_whole t]

theorem blk11 (t : Fin cfg0.N) (k : Fin 1024) (j : Fin 512) : iblk m c 11 t (ix2 j k) = wK m c 512 3072 (by omega) k j := by
  refine Eq.trans ?_ (V23 m c k j)
  blk_ext [iblk, idx_whole t]

theorem blk13 (t : Fin cfg0.N) (k : Fin 1024) (j : Fin 1024) : iblk m c 13 t (ix2 k j) = wK m c 1024 3592 (by omega) k j := by
  refine Eq.trans ?_ (V25 m c k j)
  blk_ext [iblk, idx_whole t]

theorem blk14 (t : Fin cfg0.N) (k : Fin 1024) (j : Fin 1024) : iblk m c 14 t (ix2 k j) = wK m c 1024 4616 (by omega) k j := by
  refine Eq.trans ?_ (V26 m c k j)
  blk_ext [iblk, idx_whole t]

theorem normed_eq (t : Fin cfg0.N) (r : Fin 1024) : normed (iblk m c 0 t) (iblk m c 1 t) (iblk m c 2 t) r = hK m c (tokOf t r) :=
  congr (congr (congrArg lnRow (funext fun k => blk0 m c t r k)) (funext fun k => blk1 m c t k)) (funext fun k => blk2 m c t k)

theorem bound_eq (t : Fin cfg0.N) (j : Fin 512) : bound (iblk m c 3 t) j = lK m c j := congrArg share (funext fun k => blk3 m c t k j)

end Cert.Proj
-- ==== Proof.Inproj.Array.lean ====
module

public import proofs.«01_k».proof.Proof.Inproj.Windows

@[expose] public section

set_option maxRecDepth 16384

noncomputable section

/-! What the eleven result arrays of the input projections hold. -/

namespace Cert.Proj

open Cert.InprojIdeal Cert.InprojIdeal.Gen Idealize.ShloMosaic Idealize.ShloMosaic.TcCoe Cert.Tail
open Cert.InprojIdeal.Run (dats after15 after16 after17 after18 after19 after20 after21 after22 after23 after24 after25)

variable (m : (ℓ : Loc nD τ sig) → Buf (Elt Ideal) ℓ) (c : Dev nD)

/-- Token `R` projected on column `j` of the weight's `n` columns from `o` on. -/
abbrev pre (n o : ℕ) (h : o + n ≤ 5640) (R : Fin 65536) (j : Fin n) : EReal := mv (hK m c R) (wK m c n o h) j

/-- One token's pre-activation, from a block's normed row and the block of the weight. -/
theorem pre_eq {n : ℕ} (t : Fin cfg0.N) (r : Fin 1024) (w : Fin 1024 → Fin n → EReal) (w' : Fin 1024 → Fin n → EReal) (h : ∀ k j, w k j = w' k j) (j : Fin n) :
    mv (normed (iblk m c 0 t) (iblk m c 1 t) (iblk m c 2 t) r) w j = mv (hK m c (tokOf t r)) w' j :=
  congrFun (congr (congrArg mv (normed_eq m c t r)) (funext fun k => funext fun j => h k j)) j

/-- The same with the weight transposed, its products the other way round. -/
theorem vm_eq {n : ℕ} (t : Fin cfg0.N) (r : Fin 1024) (w : Fin n → Fin 1024 → EReal) (w' : Fin 1024 → Fin n → EReal) (h : ∀ k j, w j k = w' k j) (j : Fin n) :
    vm w (normed (iblk m c 0 t) (iblk m c 1 t) (iblk m c 2 t) r) j = mv (hK m c (tokOf t r)) w' j := by
  rw [← pre_eq m c t r (fun k j => w j k) w' h j]
  exact Finset.sum_congr rfl fun k _ => mul_comm _ _

def kQ (R : Fin 65536) (j : Fin 512) : EReal := siluTanh (pre m c 512 0 (by omega) R j)

def kG (R : Fin 65536) (j : Fin 512) : EReal := logGate (lK m c j) (pre m c 512 512 (by omega) R j)

def kK (R : Fin 65536) (j : Fin 512) : EReal := keyOf (lK m c j) (pre m c 512 512 (by omega) R j)

def kI (R : Fin 65536) (j : Fin 512) : EReal := pre m c 512 1024 (by omega) R j

def kGate (R : Fin 65536) (j : Fin 512) : EReal := siluTanh (pre m c 512 1536 (by omega) R j)

def kFq (R : Fin 65536) (j : Fin 512) : EReal := pre m c 512 2048 (by omega) R j * scale

def kFk (R : Fin 65536) (j : Fin 512) : EReal := pre m c 512 2560 (by omega) R j

def kFv (R : Fin 65536) (j : Fin 512) : EReal := pre m c 512 3072 (by omega) R j

def kF (R : Fin 65536) (j : Fin 128) : EReal := logSig (mv (hK m c R) (wF m c) j + bF m c j)

def kA (R : Fin 65536) (j : Fin 1024) : EReal := gateTanh (pre m c 1024 3592 (by omega) R j)

def kB (R : Fin 65536) (j : Fin 1024) : EReal := gateTanh (pre m c 1024 4616 (by omega) R j)

theorem kQ_point (t : Fin cfg0.N) (r : Fin 1024) (j : Fin 512) :
    Run.hgQ (iblk m c 0 t) (iblk m c 1 t) (iblk m c 2 t) (iblk m c 5 t) (ix2 r j) = kQ m c (tokOf t r) j := by
  refine (hgQ_apply ..).trans ?_
  rw [pre_eq m c t r _ _ (blk5 m c t) j]
  rfl

theorem kQ_arr : (dats m 0 c).arrAt 15 cfg0.N = fun y => kQ m c (y 0) (y 1) := by
  refine (dats m 0 c).arrAt_eq_of_covers 15 _ (by decide +kernel) fun t hf y => ?_
  blk_simp [idx_row t]
  rw [after15]
  idx_vars y
  refine (kQ_point ..).trans ?_
  congr 1 <;> apply Fin.ext <;> blk_simp [idx_row t] <;> (dsimp only [tokOf]; omega)

theorem kG_point (t : Fin cfg0.N) (r : Fin 1024) (j : Fin 512) :
    Run.hgG (iblk m c 0 t) (iblk m c 1 t) (iblk m c 2 t) (iblk m c 3 t) (iblk m c 6 t) (ix2 r j) = kG m c (tokOf t r) j := by
  refine (hgG_apply ..).trans ?_
  rw [pre_eq m c t r _ _ (blk6 m c t) j, bound_eq m c t j]
  rfl

theorem kG_arr : (dats m 0 c).arrAt 16 cfg0.N = fun y => kG m c (y 0) (y 1) := by
  refine (dats m 0 c).arrAt_eq_of_covers 16 _ (by decide +kernel) fun t hf y => ?_
  blk_simp [idx_row t]
  rw [after16]
  idx_vars y
  refine (kG_point ..).trans ?_
  congr 1 <;> apply Fin.ext <;> blk_simp [idx_row t] <;> (dsimp only [tokOf]; omega)

theorem kK_point (t : Fin cfg0.N) (r : Fin 1024) (j : Fin 512) :
    Run.hgK (iblk m c 0 t) (iblk m c 1 t) (iblk m c 2 t) (iblk m c 3 t) (iblk m c 6 t) (ix2 r j) = kK m c (tokOf t r) j := by
  refine (hgK_apply ..).trans ?_
  rw [pre_eq m c t r _ _ (blk6 m c t) j, bound_eq m c t j]
  rfl

theorem kK_arr : (dats m 0 c).arrAt 17 cfg0.N = fun y => kK m c (y 0) (y 1) := by
  refine (dats m 0 c).arrAt_eq_of_covers 17 _ (by decide +kernel) fun t hf y => ?_
  blk_simp [idx_row t]
  rw [after17]
  idx_vars y
  refine (kK_point ..).trans ?_
  congr 1 <;> apply Fin.ext <;> blk_simp [idx_row t] <;> (dsimp only [tokOf]; omega)

theorem kI_point (t : Fin cfg0.N) (r : Fin 1024) (j : Fin 512) :
    Run.hgI (iblk m c 0 t) (iblk m c 1 t) (iblk m c 2 t) (iblk m c 7 t) (ix2 r j) = kI m c (tokOf t r) j := by
  refine (hgI_apply ..).trans ?_
  rw [pre_eq m c t r _ _ (blk7 m c t) j]
  rfl

theorem kI_arr : (dats m 0 c).arrAt 18 cfg0.N = fun y => kI m c (y 0) (y 1) := by
  refine (dats m 0 c).arrAt_eq_of_covers 18 _ (by decide +kernel) fun t hf y => ?_
  blk_simp [idx_row t]
  rw [after18]
  idx_vars y
  refine (kI_point ..).trans ?_
  congr 1 <;> apply Fin.ext <;> blk_simp [idx_row t] <;> (dsimp only [tokOf]; omega)

theorem kGate_point (t : Fin cfg0.N) (r : Fin 1024) (j : Fin 512) :
    Run.hgGate (iblk m c 0 t) (iblk m c 1 t) (iblk m c 2 t) (iblk m c 8 t) (ix2 r j) = kGate m c (tokOf t r) j := by
  refine (hgGate_apply ..).trans ?_
  rw [pre_eq m c t r _ _ (blk8 m c t) j]
  rfl

theorem kGate_arr : (dats m 0 c).arrAt 19 cfg0.N = fun y => kGate m c (y 0) (y 1) := by
  refine (dats m 0 c).arrAt_eq_of_covers 19 _ (by decide +kernel) fun t hf y => ?_
  blk_simp [idx_row t]
  rw [after19]
  idx_vars y
  refine (kGate_point ..).trans ?_
  congr 1 <;> apply Fin.ext <;> blk_simp [idx_row t] <;> (dsimp only [tokOf]; omega)

theorem kFq_point (t : Fin cfg0.N) (r : Fin 1024) (j : Fin 512) :
    Run.fxQ (iblk m c 0 t) (iblk m c 1 t) (iblk m c 2 t) (iblk m c 9 t) (ix2 j r) = kFq m c (tokOf t r) j := by
  refine (fxQ_apply ..).trans ?_
  rw [vm_eq m c t r _ _ (blk9 m c t) j]
  rfl

theorem kFq_arr : (dats m 0 c).arrAt 20 cfg0.N = fun y => kFq m c (y 1) (y 0) := by
  refine (dats m 0 c).arrAt_eq_of_covers 20 _ (by decide +kernel) fun t hf y => ?_
  blk_simp [idx_col t]
  rw [after20]
  idx_vars y
  refine (kFq_point ..).trans ?_
  congr 1 <;> apply Fin.ext <;> blk_simp [idx_col t] <;> (dsimp only [tokOf]; omega)

theorem kFk_point (t : Fin cfg0.N) (r : Fin 1024) (j : Fin 512) :
    Run.fxK (iblk m c 0 t) (iblk m c 1 t) (iblk m c 2 t) (iblk m c 10 t) (ix2 r j) = kFk m c (tokOf t r) j := by
  refine (fxK_apply ..).trans ?_
  rw [pre_eq m c t r _ _ (blk10 m c t) j]
  rfl

theorem kFk_arr : (dats m 0 c).arrAt 21 cfg0.N = fun y => kFk m c (y 0) (y 1) := by
  refine (dats m 0 c).arrAt_eq_of_covers 21 _ (by decide +kernel) fun t hf y => ?_
  blk_simp [idx_row t]
  rw [after21]
  idx_vars y
  refine (kFk_point ..).trans ?_
  congr 1 <;> apply Fin.ext <;> blk_simp [idx_row t] <;> (dsimp only [tokOf]; omega)

theorem kFv_point (t : Fin cfg0.N) (r : Fin 1024) (j : Fin 512) :
    Run.fxV (iblk m c 0 t) (iblk m c 1 t) (iblk m c 2 t) (iblk m c 11 t) (ix2 j r) = kFv m c (tokOf t r) j := by
  refine (fxV_apply ..).trans ?_
  rw [vm_eq m c t r _ _ (blk11 m c t) j]
  rfl

theorem kFv_arr : (dats m 0 c).arrAt 22 cfg0.N = fun y => kFv m c (y 1) (y 0) := by
  refine (dats m 0 c).arrAt_eq_of_covers 22 _ (by decide +kernel) fun t hf y => ?_
  blk_simp [idx_col t]
  rw [after22]
  idx_vars y
  refine (kFv_point ..).trans ?_
  congr 1 <;> apply Fin.ext <;> blk_simp [idx_col t] <;> (dsimp only [tokOf]; omega)

theorem kF_point (t : Fin cfg0.N) (r : Fin 1024) (j : Fin 128) :
    Run.fxLog (iblk m c 0 t) (iblk m c 1 t) (iblk m c 2 t) (iblk m c 12 t) (iblk m c 4 t) (ix2 r j) = kF m c (tokOf t r) j := by
  refine (fxLog_apply ..).trans ?_
  rw [pre_eq m c t r _ _ (blk12 m c t) j, blk4 m c t j]
  rfl

theorem kF_arr : (dats m 0 c).arrAt 23 cfg0.N = fun y => kF m c (y 0) (y 1) := by
  refine (dats m 0 c).arrAt_eq_of_covers 23 _ (by decide +kernel) fun t hf y => ?_
  blk_simp [idx_row t]
  rw [after23]
  idx_vars y
  refine (kF_point ..).trans ?_
  congr 1 <;> apply Fin.ext <;> blk_simp [idx_row t] <;> (dsimp only [tokOf]; omega)

theorem kA_point (t : Fin cfg0.N) (r : Fin 1024) (j : Fin 1024) :
    Run.gateA (iblk m c 0 t) (iblk m c 1 t) (iblk m c 2 t) (iblk m c 13 t) (ix2 r j) = kA m c (tokOf t r) j := by
  refine (gateA_apply ..).trans ?_
  rw [pre_eq m c t r _ _ (blk13 m c t) j]
  rfl

theorem kA_arr : (dats m 0 c).arrAt 24 cfg0.N = fun y => kA m c (y 0) (y 1) := by
  refine (dats m 0 c).arrAt_eq_of_covers 24 _ (by decide +kernel) fun t hf y => ?_
  blk_simp [idx_row t]
  rw [after24]
  idx_vars y
  refine (kA_point ..).trans ?_
  congr 1 <;> apply Fin.ext <;> blk_simp [idx_row t] <;> (dsimp only [tokOf]; omega)

theorem kB_point (t : Fin cfg0.N) (r : Fin 1024) (j : Fin 1024) :
    Run.gateB (iblk m c 0 t) (iblk m c 1 t) (iblk m c 2 t) (iblk m c 14 t) (ix2 r j) = kB m c (tokOf t r) j := by
  refine (gateB_apply ..).trans ?_
  rw [pre_eq m c t r _ _ (blk14 m c t) j]
  rfl

theorem kB_arr : (dats m 0 c).arrAt 25 cfg0.N = fun y => kB m c (y 0) (y 1) := by
  refine (dats m 0 c).arrAt_eq_of_covers 25 _ (by decide +kernel) fun t hf y => ?_
  blk_simp [idx_row t]
  rw [after25]
  idx_vars y
  refine (kB_point ..).trans ?_
  congr 1 <;> apply Fin.ext <;> blk_simp [idx_row t] <;> (dsimp only [tokOf]; omega)

end Cert.Proj
-- ==== Proof.Tail.Equation.lean ====
module

public import proofs.«01_k».proof.Proof.Tail.Spec

@[expose] public section

noncomputable section

/-! The kernel's order of the sums, and its gate by `tanh`, against the reference's. -/

namespace Cert.Tail

open Idealize.ShloMosaic

theorem half_eq : Ideal.ofBits .f32 0x3F000000#32 = ((1 / 2 : ℝ) : EReal) := by
  simp [Ideal.ofBits, Ideal.ieee, -EReal.coe_mul]; norm_num

/-- The logistic function through the hyperbolic tangent of half the argument, on the reals. -/
theorem gate_real (x : ℝ) : 1 / 2 + 1 / 2 * Real.tanh (1 / 2 * x) = (1 + Real.exp (-x))⁻¹ := by
  have e1 : Real.exp (-x) = Real.exp (-(1 / 2 * x)) / Real.exp (1 / 2 * x) := by
    rw [← Real.exp_sub]; congr 1; ring
  have p1 := Real.exp_pos (1 / 2 * x)
  have p2 := Real.exp_pos (-(1 / 2 * x))
  rw [Real.tanh_eq_sinh_div_cosh, Real.sinh_eq, Real.cosh_eq, e1]
  field_simp
  ring

/-- The same at the infinities too. -/
theorem gate_eq (x : EReal) : gateTanh x = Ideal.div 1 (1 + Ideal.exp (-x)) := by
  unfold gateTanh
  rw [half_eq]
  have hp : (0 : ℝ) < 1 / 2 := by norm_num
  induction x with
  | bot =>
    rw [EReal.coe_mul_bot_of_pos hp, EReal.neg_bot]
    show ((1 / 2 : ℝ) : EReal) + ((1 / 2 : ℝ) : EReal) * (-1) = Ideal.div 1 (1 + ⊤)
    rw [show (1 : EReal) + ⊤ = ⊤ from rfl]
    rw [Ideal.div, if_neg (by simp), EReal.inv_top, mul_zero, show (-1 : EReal) = ((-1 : ℝ) : EReal) from rfl, ← EReal.coe_mul, ← EReal.coe_add]
    norm_num
  | top =>
    rw [EReal.coe_mul_top_of_pos hp, EReal.neg_top]
    show ((1 / 2 : ℝ) : EReal) + ((1 / 2 : ℝ) : EReal) * 1 = Ideal.div 1 (1 + 0)
    rw [add_zero, Ideal.div, if_neg one_ne_zero, mul_one, ← EReal.coe_add]
    norm_num
  | coe r =>
    have hy : (0 : ℝ) < 1 + Real.exp (-r) := by positivity
    rw [← EReal.coe_mul, ← EReal.coe_neg]
    show ((1 / 2 : ℝ) : EReal) + ((1 / 2 : ℝ) : EReal) * (Real.tanh (1 / 2 * r) : ℝ) = Ideal.div 1 (1 + ((Real.exp (-r) : ℝ) : EReal))
    rw [show (1 : EReal) = ((1 : ℝ) : EReal) from rfl, ← EReal.coe_add, Ideal.div, if_neg (by exact_mod_cast hy.ne'), ← EReal.coe_inv,
      ← EReal.coe_mul, ← EReal.coe_mul, ← EReal.coe_add, gate_real, one_mul]

/-- The feed-forward's sum in four blocks of its hidden units. -/
theorem ff_eq (h : Fin 1024 → EReal) (w1 : Fin 1024 → Fin 4096 → EReal) (w2 : Fin 4096 → Fin 1024 → EReal) (j : Fin 1024) :
    mv (fun k => sqRelu (mv h w1 k)) w2 j
      = ffBlock h w1 w2 0 (by omega) j + ffBlock h w1 w2 1024 (by omega) j + ffBlock h w1 w2 2048 (by omega) j + ffBlock h w1 w2 3072 (by omega) j := by
  unfold mv ffBlock
  refine (Fin.sum_univ_add (a := 3072) (b := 1024) _).trans (congr (congrArg _ ?_) (Finset.sum_congr rfl fun f _ => rfl))
  refine (Fin.sum_univ_add (a := 2048) (b := 1024) _).trans (congr (congrArg _ ?_) (Finset.sum_congr rfl fun f _ => rfl))
  refine (Fin.sum_univ_add (a := 1024) (b := 1024) _).trans (congr (congrArg _ ?_) (Finset.sum_congr rfl fun f _ => rfl))
  refine Finset.sum_congr rfl fun f _ => ?_
  have e : (⟨0 + f.1, by omega⟩ : Fin 4096) = Fin.castAdd 1024 (Fin.castAdd 1024 (Fin.castAdd 1024 f)) := Fin.ext (Nat.zero_add _)
  rw [e]
  rfl

/-- The two orders of the last sum agree. -/
theorem acc_eq (h : Fin 1024 → EReal) (p : Fin 256 → EReal) (w1 : Fin 1024 → Fin 4096 → EReal) (w2 : Fin 4096 → Fin 1024 → EReal)
    (wg : Fin 1024 → Fin 1024 → EReal) (wp : Fin 256 → Fin 1024 → EReal) : accRow h p w1 w2 wg wp = refRow h p w1 w2 wg wp := by
  funext j
  unfold accRow refRow
  rw [gate_eq, ff_eq]
  ac_rfl

end Cert.Tail
-- ==== Proof.Inproj.Equation.lean ====
module

public import proofs.«01_k».proof.Proof.Inproj.Spec
public import proofs.«01_k».proof.Proof.Tail.Equation

@[expose] public section

noncomputable section

/-! The kernel's activations, written with the hyperbolic tangent, against the reference's with the logistic function. -/

namespace Cert.Proj

open Idealize.ShloMosaic Cert.Tail

theorem gate_logi (z : EReal) : half + halfTanh z = logi z := gate_eq z

theorem gateTanh_eq (z : EReal) : gateTanh z = logi z := gate_eq z

theorem silu_eq (z : EReal) : siluTanh z = z * logi z := by
  unfold siluTanh
  rw [gate_logi]

theorem logGate_eq (l z : EReal) : logGate l z = logGateRef l z := by
  unfold logGate logGateRef
  rw [gate_logi]

/-- A maximum that starts at a value stays above it. -/
theorem share_eq (e : Fin 2 → EReal) : share e = shareRef e := by
  unfold share shareRef
  rw [max_eq_right ((Finset.le_fold_max _).mpr (Or.inl le_rfl))]

/-- The hyperbolic tangent is a real number everywhere. -/
theorem tanh_real (z : EReal) : ∃ t : ℝ, Ideal.tanh z = (t : EReal) := by
  induction z with
  | bot => exact ⟨-1, rfl⟩
  | top => exact ⟨1, rfl⟩
  | coe r => exact ⟨_, rfl⟩

/-- The key is one minus the forget gate, for a real lower bound. -/
theorem key_eq (l : ℝ) (z : EReal) : keyOf l z = keyRef l z := by
  unfold keyOf keyRef
  rw [← gate_logi]
  unfold halfTanh
  obtain ⟨t, ht⟩ := tanh_real (half * z)
  rw [ht, show half = _ from half_eq, show (1 : EReal) = ((1 : ℝ) : EReal) from rfl]
  simp only [← EReal.coe_mul, ← EReal.coe_add, ← EReal.coe_sub]
  congr 1
  ring

/-- The exponential of a real number, and of minus infinity, is a real number that is not negative. -/
theorem exp_abs_real (z : EReal) : ∃ p : ℝ, 0 ≤ p ∧ Ideal.exp (-max z (-z)) = (p : EReal) := by
  induction z with
  | bot => exact ⟨0, le_rfl, by rw [EReal.neg_bot, max_eq_right bot_le, EReal.neg_top]; rfl⟩
  | top => exact ⟨0, le_rfl, by rw [EReal.neg_top, max_eq_left bot_le, EReal.neg_top]; rfl⟩
  | coe r =>
    refine ⟨Real.exp (-max r (-r)), (Real.exp_pos _).le, ?_⟩
    rw [← EReal.coe_neg, ← EReal.coe_strictMono.monotone.map_max, ← EReal.coe_neg]
    rfl

theorem log_one_add_real (p : ℝ) (hp : 0 ≤ p) : Ideal.log (1 + (p : EReal)) = ((Real.log (1 + p) : ℝ) : EReal) := by
  rw [show (1 : EReal) = ((1 : ℝ) : EReal) from rfl, ← EReal.coe_add]
  show (if 1 + p ≤ 0 then ⊥ else ((Real.log (1 + p) : ℝ) : EReal)) = _
  rw [if_neg (by linarith)]

theorem neg_max_zero (z : EReal) : -max (-z) 0 = min z 0 := by
  rcases le_total z 0 with h | h
  · rw [min_eq_left h, max_eq_left (EReal.le_neg_of_le_neg (by rwa [neg_zero])), neg_neg]
  · rw [min_eq_right h, max_eq_right (by rw [← neg_zero]; exact EReal.neg_le_neg_iff.mpr h), neg_zero]

theorem logSig_eq (z : EReal) : logSig z = logSigRef z := by
  unfold logSig logSigRef Ideal.log1p
  obtain ⟨p, hp, e⟩ := exp_abs_real z
  rw [neg_neg, max_comm (-z) z, zero_sub, e, log_one_add_real p hp, EReal.neg_add (Or.inr (EReal.coe_ne_top _)) (Or.inr (EReal.coe_ne_bot _)), neg_max_zero]

/-- The share of two real logits is real. -/
theorem share_real (e : Fin 2 → EReal) (h : ∀ k, ∃ r : ℝ, e k = r) : ∃ l : ℝ, share e = l := by
  obtain ⟨a, ha⟩ := h 0
  obtain ⟨b, hb⟩ := h 1
  have hm : ∃ M : ℝ, Finset.fold max (Ideal.ofBits .f32 0xFF800000#32) e Finset.univ = M := by
    refine ⟨max a b, ?_⟩
    rw [show (Finset.univ : Finset (Fin 2)) = {0, 1} from by decide, Finset.fold_insert (by decide), Finset.fold_singleton, ha, hb,
      show Ideal.ofBits .f32 0xFF800000#32 = ⊥ from by simp [Ideal.ofBits, Ideal.ieee], max_eq_left bot_le, EReal.coe_strictMono.monotone.map_max]
  obtain ⟨M, hM⟩ := hm
  unfold share
  rw [hM, Fin.sum_univ_two, ha, hb, ← EReal.coe_sub, ← EReal.coe_sub]
  refine ⟨Real.exp (a - M) * (Real.exp (a - M) + Real.exp (b - M))⁻¹, ?_⟩
  show Ideal.div ((Real.exp (a - M) : ℝ) : EReal) (((Real.exp (a - M) : ℝ) : EReal) + ((Real.exp (b - M) : ℝ) : EReal)) = _
  have hp : (0 : ℝ) < Real.exp (a - M) + Real.exp (b - M) := by positivity
  rw [← EReal.coe_add, Ideal.div, if_neg (by exact_mod_cast hp.ne'), ← EReal.coe_inv, ← EReal.coe_mul]

end Cert.Proj
-- ==== Proof.Inproj.Match.lean ====
module

public import proofs.«01_k».proof.Proof.Inproj.Array
public import proofs.«01_k».proof.Proof.Inproj.Equation

@[expose] public section

set_option maxRecDepth 16384

noncomputable section

/-! The kernel's eleven values at a token and a column are the reference's. -/

namespace Cert.Proj

open Cert.InprojIdeal Cert.InprojIdeal.Gen Idealize.ShloMosaic Idealize.ShloMosaic.TcCoe Cert.Tail
open Cert.InprojRefIdeal.Read

variable (m : (ℓ : Loc nD τ sig) → Buf (Elt Ideal) ℓ) (c : Dev nD)

/-- The lower bound is a real number when its logits are. -/
theorem bound_real (h : ∀ k j, ∃ r : ℝ, (m ((c : Thread nD τ).loc main_arg4)) (ix2 k j) = (r : EReal)) (j : Fin 512) : ∃ l : ℝ, lK m c j = l :=
  share_real _ fun k => h k j

/-- The shifted pre-activation of the forget gate vanishes past the heads. -/
theorem fPre_eq (R : Fin 65536) (j : Fin 128) :
    mv (hK m c R) (wF m c) j + bF m c j = fPre (m ((c : Thread nD τ).loc main_arg0)) (m ((c : Thread nD τ).loc main_arg1)) (m ((c : Thread nD τ).loc main_arg2)) (m ((c : Thread nD τ).loc main_arg3)) (m ((c : Thread nD τ).loc main_arg5)) R j := by
  unfold fPre bF mv wF
  split_ifs
  · rfl
  · simp only [mul_zero, Finset.sum_const_zero, add_zero]

theorem kQ_eq (R : Fin 65536) (j : Fin 512) :
    kQ m c R j = val_main_v72 (F := Ideal) (m ((c : Thread nD τ).loc main_arg0)) (m ((c : Thread nD τ).loc main_arg1)) (m ((c : Thread nD τ).loc main_arg2)) (m ((c : Thread nD τ).loc main_arg3)) (ix2 R j) := by
  exact (silu_eq _).trans (ref_q ..).symm

theorem kG_eq (R : Fin 65536) (j : Fin 512) :
    kG m c R j = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R j) := by
  exact (logGate_eq _ _).trans ((congrArg (logGateRef · _) (share_eq _)).trans (ref_g ..).symm)

theorem kK_eq (h : ∀ k j, ∃ r : ℝ, (m ((c : Thread nD τ).loc main_arg4)) (ix2 k j) = (r : EReal)) (R : Fin 65536) (j : Fin 512) :
    kK m c R j = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R j) := by
  obtain ⟨l, hl⟩ := bound_real m c h j
  unfold kK
  rw [hl]
  exact (key_eq l _).trans ((congrArg (keyRef · _) (hl.symm.trans (share_eq _))).trans (ref_k ..).symm)

theorem kI_eq (R : Fin 65536) (j : Fin 512) :
    kI m c R j = val_main_v77 (F := Ideal) (m ((c : Thread nD τ).loc main_arg0)) (m ((c : Thread nD τ).loc main_arg1)) (m ((c : Thread nD τ).loc main_arg2)) (m ((c : Thread nD τ).loc main_arg3)) (ix2 R j) := by
  exact (ref_i ..).symm

theorem kGate_eq (R : Fin 65536) (j : Fin 512) :
    kGate m c R j = val_main_v79 (F := Ideal) (m ((c : Thread nD τ).loc main_arg0)) (m ((c : Thread nD τ).loc main_arg1)) (m ((c : Thread nD τ).loc main_arg2)) (m ((c : Thread nD τ).loc main_arg3)) (ix2 R j) := by
  exact (silu_eq _).trans (ref_gate ..).symm

theorem kFq_eq (R : Fin 65536) (j : Fin 512) :
    kFq m c R j = val_main_v83 (F := Ideal) (m ((c : Thread nD τ).loc main_arg0)) (m ((c : Thread nD τ).loc main_arg1)) (m ((c : Thread nD τ).loc main_arg2)) (m ((c : Thread nD τ).loc main_arg3)) (ix2 j R) := by
  exact (ref_fq ..).symm

theorem kFk_eq (R : Fin 65536) (j : Fin 512) :
    kFk m c R j = val_main_v84 (F := Ideal) (m ((c : Thread nD τ).loc main_arg0)) (m ((c : Thread nD τ).loc main_arg1)) (m ((c : Thread nD τ).loc main_arg2)) (m ((c : Thread nD τ).loc main_arg3)) (ix2 R j) := by
  exact (ref_fk ..).symm

theorem kFv_eq (R : Fin 65536) (j : Fin 512) :
    kFv m c R j = val_main_v86 (F := Ideal) (m ((c : Thread nD τ).loc main_arg0)) (m ((c : Thread nD τ).loc main_arg1)) (m ((c : Thread nD τ).loc main_arg2)) (m ((c : Thread nD τ).loc main_arg3)) (ix2 j R) := by
  exact (ref_fv ..).symm

theorem kF_eq (R : Fin 65536) (j : Fin 128) :
    kF m c R j = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 R j) := by
  exact (logSig_eq _).trans ((congrArg logSigRef (fPre_eq m c R j)).trans (ref_lf ..).symm)

theorem kA_eq (R : Fin 65536) (j : Fin 1024) :
    kA m c R j = val_main_v93 (F := Ideal) (m ((c : Thread nD τ).loc main_arg0)) (m ((c : Thread nD τ).loc main_arg1)) (m ((c : Thread nD τ).loc main_arg2)) (m ((c : Thread nD τ).loc main_arg3)) (ix2 R j) := by
  exact (gateTanh_eq _).trans (ref_a ..).symm

theorem kB_eq (R : Fin 65536) (j : Fin 1024) :
    kB m c R j = val_main_v100 (F := Ideal) (m ((c : Thread nD τ).loc main_arg0)) (m ((c : Thread nD τ).loc main_arg1)) (m ((c : Thread nD τ).loc main_arg2)) (m ((c : Thread nD τ).loc main_arg3)) (ix2 R j) := by
  exact (gateTanh_eq _).trans (ref_b ..).symm

end Cert.Proj
-- ==== Proof.Inproj.Claim.lean ====
module

public import proofs.«01_k».proof.Defs
public import proofs.«01_k».proof.Proof.Gen.Pre_finite_bound
public import proofs.«01_k».proof.Proof.Inproj.Match
public import Idealize.ShloMosaic.Lib.Quiescent

@[expose] public section

set_option maxRecDepth 16384

noncomputable section

/-! The input projections and their reference leave the same eleven arrays. -/

namespace Cert.Proj

open Idealize.ShloMosaic Idealize.ShloMosaic.TcCoe Idealize.SL.Sem Idealize.ShloMosaic.StableHlo

theorem frame_ref : Cert.quiescent_InprojRefIdeal (hInprojRefIdeal := Cert.InprojRefIdeal.Gen.facts) := fun m ρ _ =>
  (θ_run Cert.InprojRefIdeal.defs _ _).mono (fun r h => ⟨fun c => (h c).2.2.2.2.2.2.2.2.2.2.2, sem_eq_zero_of_no_sems (by decide) r.2⟩)
    (Cert.InprojRefIdeal.Value.run (F := Ideal) m ρ)

/-- A number whose magnitude is below infinity is real. -/
theorem real_of_abs_lt (x : EReal) (h : max x (-x) < ⊤) : ∃ r : ℝ, x = r := by
  induction x with
  | bot => exact absurd h (by rw [EReal.neg_bot, max_eq_right bot_le]; exact lt_irrefl _)
  | top => exact absurd h (by rw [EReal.neg_top, max_eq_left bot_le]; exact lt_irrefl _)
  | coe r => exact ⟨r, rfl⟩

theorem word_top : Ideal.ofBits .f32 0x7F800000#32 = ⊤ := by
  simp [Ideal.ofBits, Ideal.ieee]

section
open Cert.InprojIdeal

/-- What the precondition says of one logit. -/
theorem logit_real (m : (ℓ : Loc nD τ sig) → Buf (Elt Ideal) ℓ) (h : Cert.Pre_InprojIdeal_finite_bound (hPre_finite_bound := Cert.Pre_finite_bound.Gen.facts) m) (c : Dev nD)
    (k : Fin 2) (j : Fin 512) : ∃ r : ℝ, (m ((c : Thread nD τ).loc main_arg4)) (ix2 k j) = (r : EReal) := by
  have e := congrFun (h c) (ix2 k j)
  unfold Cert.Pre_finite_bound.fn at e
  refine real_of_abs_lt _ ?_
  rw [← word_top]
  by_contra hn
  exact absurd e (by
    show ¬ BitVec.ofBool (decide (max (α := EReal) ((m ((c : Thread nD τ).loc main_arg4)) (ix2 k j)) (Neg.neg (α := EReal) ((m ((c : Thread nD τ).loc main_arg4)) (ix2 k j))) < Ideal.ofBits .f32 0x7F800000#32)) = 1#1
    rw [decide_eq_false hn]
    decide)

/-- The kernel's run, with each result array by what the pipeline leaves. -/
theorem run_arrays (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30_0) = (Run.dats m 0 c).arrAt 15 cfg0.N
      ∧ r.2.mem ((c.tc : Thread nD τ).loc main_v30_1) = (Run.dats m 0 c).arrAt 16 cfg0.N
      ∧ r.2.mem ((c.tc : Thread nD τ).loc main_v30_2) = (Run.dats m 0 c).arrAt 17 cfg0.N
      ∧ r.2.mem ((c.tc : Thread nD τ).loc main_v30_3) = (Run.dats m 0 c).arrAt 18 cfg0.N
      ∧ r.2.mem ((c.tc : Thread nD τ).loc main_v30_4) = (Run.dats m 0 c).arrAt 19 cfg0.N
      ∧ r.2.mem ((c.tc : Thread nD τ).loc main_v30_5) = (Run.dats m 0 c).arrAt 20 cfg0.N
      ∧ r.2.mem ((c.tc : Thread nD τ).loc main_v30_6) = (Run.dats m 0 c).arrAt 21 cfg0.N
      ∧ r.2.mem ((c.tc : Thread nD τ).loc main_v30_7) = (Run.dats m 0 c).arrAt 22 cfg0.N
      ∧ r.2.mem ((c.tc : Thread nD τ).loc main_v30_8) = (Run.dats m 0 c).arrAt 23 cfg0.N
      ∧ r.2.mem ((c.tc : Thread nD τ).loc main_v30_9) = (Run.dats m 0 c).arrAt 24 cfg0.N
      ∧ r.2.mem ((c.tc : Thread nD τ).loc main_v30_10) = (Run.dats m 0 c).arrAt 25 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 15, (h.1 c).1 16, (h.1 c).1 17, (h.1 c).1 18, (h.1 c).1 19, (h.1 c).1 20, (h.1 c).1 21, (h.1 c).1 22, (h.1 c).1 23, (h.1 c).1 24, (h.1 c).1 25, h.2 c⟩) (θ_run_and (Run.run_main (F := Ideal) m ρ) (Run.unchanged (F := Ideal) m ρ))

end

/-- One result: the kernel's array, by its closed form, is the reference's. -/
theorem result {n p : ℕ} (a b : (⟨2, ![n, p]⟩ : Shape).Idx → EReal) (h : ∀ (i : Fin n) (j : Fin p), a (ix2 i j) = b (ix2 i j)) : b = a := by
  funext y
  rw [eq_ix2 y]
  exact (h _ _).symm

set_option maxHeartbeats 2000000 in
theorem algebraic : Cert.algebraic_InprojIdeal_InprojRefIdeal_pre_finite_bound (hInprojIdeal := Cert.InprojIdeal.Gen.facts)
    (hInprojRefIdeal := Cert.InprojRefIdeal.Gen.facts) (hPre_finite_bound := Cert.Pre_finite_bound.Gen.facts) := by
  intro m ρ m' ρ' hpre hagree
  refine ⟨fun c => (Cert.InprojIdeal.Run.dats (F := Ideal) m 0 c).arrAt 15 Cert.InprojIdeal.cfg0.N, fun c => (Cert.InprojIdeal.Run.dats (F := Ideal) m 0 c).arrAt 16 Cert.InprojIdeal.cfg0.N, fun c => (Cert.InprojIdeal.Run.dats (F := Ideal) m 0 c).arrAt 17 Cert.InprojIdeal.cfg0.N, fun c => (Cert.InprojIdeal.Run.dats (F := Ideal) m 0 c).arrAt 18 Cert.InprojIdeal.cfg0.N, fun c => (Cert.InprojIdeal.Run.dats (F := Ideal) m 0 c).arrAt 19 Cert.InprojIdeal.cfg0.N, fun c => (Cert.InprojIdeal.Run.dats (F := Ideal) m 0 c).arrAt 20 Cert.InprojIdeal.cfg0.N, fun c => (Cert.InprojIdeal.Run.dats (F := Ideal) m 0 c).arrAt 21 Cert.InprojIdeal.cfg0.N, fun c => (Cert.InprojIdeal.Run.dats (F := Ideal) m 0 c).arrAt 22 Cert.InprojIdeal.cfg0.N, fun c => (Cert.InprojIdeal.Run.dats (F := Ideal) m 0 c).arrAt 23 Cert.InprojIdeal.cfg0.N, fun c => (Cert.InprojIdeal.Run.dats (F := Ideal) m 0 c).arrAt 24 Cert.InprojIdeal.cfg0.N, fun c => (Cert.InprojIdeal.Run.dats (F := Ideal) m 0 c).arrAt 25 Cert.InprojIdeal.cfg0.N, run_arrays m ρ, ?_⟩
  · refine (θ_run Cert.InprojRefIdeal.defs _ _).mono (fun _ h c => ?_) (Cert.InprojRefIdeal.Value.run (F := Ideal) m' ρ')
    obtain ⟨e0, e1, e2, e3, e4, e5⟩ := hagree c
    obtain ⟨r0, r1, r2, r3, r4, r5, r6, r7, r8, r9, r10, hk⟩ := h c
    refine ⟨r0.trans ?_, r1.trans ?_, r2.trans ?_, r3.trans ?_, r4.trans ?_, r5.trans ?_, r6.trans ?_, r7.trans ?_, r8.trans ?_, r9.trans ?_, r10.trans ?_, hk⟩
    · refine (Cert.InprojRefIdeal.Read.val_main_v72_eq m' c).trans ?_
      refine Eq.trans ?_ (kQ_arr m c).symm
      simp only [e0, e1, e2, e3]
      exact result _ _ fun i j => kQ_eq m c i j
    · refine (Cert.InprojRefIdeal.Read.val_main_v73_eq m' c).trans ?_
      refine Eq.trans ?_ (kG_arr m c).symm
      simp only [e0, e1, e2, e3, e4]
      exact result _ _ fun i j => kG_eq m c i j
    · refine (Cert.InprojRefIdeal.Read.val_main_v76_eq m' c).trans ?_
      refine Eq.trans ?_ (kK_arr m c).symm
      simp only [e0, e1, e2, e3, e4]
      exact result _ _ fun i j => kK_eq m c (logit_real m hpre c) i j
    · refine (Cert.InprojRefIdeal.Read.val_main_v77_eq _ _ _ _).trans ?_
      refine Eq.trans ?_ (kI_arr m c).symm
      simp only [launchContents_devRef, e0, e1, e2, e3]
      exact result _ _ fun i j => kI_eq m c i j
    · refine (Cert.InprojRefIdeal.Read.val_main_v79_eq m' c).trans ?_
      refine Eq.trans ?_ (kGate_arr m c).symm
      simp only [e0, e1, e2, e3]
      exact result _ _ fun i j => kGate_eq m c i j
    · refine (Cert.InprojRefIdeal.Read.val_main_v83_eq _ _ _ _).trans ?_
      refine Eq.trans ?_ (kFq_arr m c).symm
      simp only [launchContents_devRef, e0, e1, e2, e3]
      exact result _ _ fun i j => kFq_eq m c j i
    · refine (Cert.InprojRefIdeal.Read.val_main_v84_eq _ _ _ _).trans ?_
      refine Eq.trans ?_ (kFk_arr m c).symm
      simp only [launchContents_devRef, e0, e1, e2, e3]
      exact result _ _ fun i j => kFk_eq m c i j
    · refine (Cert.InprojRefIdeal.Read.val_main_v86_eq _ _ _ _).trans ?_
      refine Eq.trans ?_ (kFv_arr m c).symm
      simp only [launchContents_devRef, e0, e1, e2, e3]
      exact result _ _ fun i j => kFv_eq m c j i
    · refine (Cert.InprojRefIdeal.Read.val_main_v70_eq m' c).trans ?_
      refine Eq.trans ?_ (kF_arr m c).symm
      simp only [e0, e1, e2, e3, e5]
      exact result _ _ fun i j => kF_eq m c i j
    · refine (Cert.InprojRefIdeal.Read.val_main_v93_eq _ _ _ _).trans ?_
      refine Eq.trans ?_ (kA_arr m c).symm
      simp only [launchContents_devRef, e0, e1, e2, e3]
      exact result _ _ fun i j => kA_eq m c i j
    · refine (Cert.InprojRefIdeal.Read.val_main_v100_eq _ _ _ _).trans ?_
      refine Eq.trans ?_ (kB_arr m c).symm
      simp only [launchContents_devRef, e0, e1, e2, e3]
      exact result _ _ fun i j => kB_eq m c i j

end Cert.Proj
-- ==== Proof.Hgrn.Claim.lean ====
module

public import proofs.«01_k».proof.Defs
public import proofs.«01_k».proof.Proof.Gen.Pre_finite_decay
public import proofs.«01_k».proof.Proof.Hgrn.Ref
public import proofs.«01_k».proof.Proof.Hgrn.Array
public import proofs.«01_k».proof.Proof.Inproj.Claim
public import Idealize.ShloMosaic.Lib.Quiescent

@[expose] public section

set_option maxRecDepth 16384

noncomputable section

/-! The gated recurrence and its reference leave the same array. -/

namespace Cert.Hgrn

open Idealize.ShloMosaic Idealize.ShloMosaic.TcCoe Idealize.SL.Sem Idealize.ShloMosaic.StableHlo

theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (run_ref (F := Ideal) m ρ)

section
open Cert.KernelIdeal

/-- What the precondition says of one decay. -/
theorem decay_real (m : (ℓ : Loc nD τ sig) → Buf (Elt Ideal) ℓ) (h : Cert.Pre_KernelIdeal_finite_decay (hPre_finite_decay := Cert.Pre_finite_decay.Gen.facts) m)
    (c : Dev nD) (i : S16x4096x512.Idx) : ∃ r : ℝ, (m ((c : Thread nD τ).loc main_arg1)) i = (r : EReal) := by
  have e := congrFun (h c) i
  unfold Cert.Pre_finite_decay.fn at e
  refine Cert.Proj.real_of_abs_lt _ ?_
  rw [← Cert.Proj.word_top]
  by_contra hn
  exact absurd e (by
    show ¬ BitVec.ofBool (decide (max (α := EReal) ((m ((c : Thread nD τ).loc main_arg1)) i) (Neg.neg (α := EReal) ((m ((c : Thread nD τ).loc main_arg1)) i)) < Ideal.ofBits .f32 0x7F800000#32)) = 1#1
    rw [decide_eq_false hn]
    decide)
end

section
open Cert.ReferenceIdeal Cert.ReferenceIdeal.Step
variable (x0 : FVec Ideal S16x4096x512 .bf16) (x1 : FVec Ideal S16x4096x512 .f32) (x2 x3 x4 : FVec Ideal S16x4096x512 .bf16) (x5 : FVec Ideal S1x512 .f32)

theorem state_start (i : S16x4x128x128.Idx) : ((init (F := Ideal) x0 x1 x2 x3).main_v13_5 i : EReal) = 0 := by
  show Ideal.ofBits FTy.f32 0x00000000#32 = 0
  simp [Ideal.ofBits, Ideal.ieee, -EReal.coe_mul]

/-- The reference's array at a token and a lane. -/
theorem ref_at (b : Fin 16) (n t : Fin 64) (h : Fin 4) (v : Fin 128) :
    (R_main_v33 (trips (init (F := Ideal) x0 x1 x2 x3) 64) x4 x5 (ix3 b (at64 n t) (hlane h v)) : EReal) =
      normRow (outRow (glob x0 b h n) (glob x1 b h n) (glob x2 b h n) (glob x3 b h n) (stateAt (glob x1 b h) (glob x2 b h) (glob x3 b h) n.val) t)
        (x5 (ix2 (0 : Fin 1) (hlane h v))) (x4 (ix3 b (at64 n t) (hlane h v))) v := by
  have eq : chunk (init (F := Ideal) x0 x1 x2 x3).main_v13_0 b h = glob x0 b h := by
    funext n t d
    exact chunk_q x0 x1 x2 x3 b n t h d
  have ek : chunk (init (F := Ideal) x0 x1 x2 x3).main_v13_1 b h = glob x2 b h := by
    funext n t d
    exact chunk_k x0 x1 x2 x3 b n t h d
  have ev : chunk (init (F := Ideal) x0 x1 x2 x3).main_v13_2 b h = glob x3 b h := by
    funext n t d
    exact chunk_v x0 x1 x2 x3 b n t h d
  have eg : chunk (init (F := Ideal) x0 x1 x2 x3).main_v13_3 b h = glob x1 b h := by
    funext n t d
    exact chunk_g x0 x1 x2 x3 b n t h d
  refine (result_apply _ x4 x5 b n t h v).trans ?_
  rw [← eq, ← ek, ← ev, ← eg]
  refine congrArg (fun o => normRow o _ _ v) (funext fun x => ?_)
  exact trips_out (init (F := Ideal) x0 x1 x2 x3) (state_start x0 x1 x2 x3) b h n t x 64 le_rfl n.isLt
end

/-- Two arrays that agree at every token and lane of every head are one. -/
theorem array_ext (x y : (⟨3, ![16, 4096, 512]⟩ : Shape).Idx → EReal)
    (h : ∀ b n t h v, x (ix3 b (at64 n t) (hlane h v)) = y (ix3 b (at64 n t) (hlane h v))) : x = y := by
  have hr : ∀ r : Fin 4096, r = at64 ⟨r.val / 64, by omega⟩ ⟨r.val % 64, by omega⟩ := fun r =>
    Fin.ext (by show r.val = 64 * (r.val / 64) + r.val % 64; omega)
  have hl : ∀ l : Fin 512, l = hlane ⟨l.val / 128, by omega⟩ ⟨l.val % 128, by omega⟩ := fun l =>
    Fin.ext (by show l.val = 128 * (l.val / 128) + l.val % 128; omega)
  have hi : ∀ (b : Fin 16) (r : Fin 4096) (l : Fin 512), x (ix3 b r l) = y (ix3 b r l) := fun b r l => by
    rw [hr r, hl l]
    exact h _ _ _ _ _
  funext i
  rw [eq_ix3 i]
  exact hi _ _ _

theorem algebraic : Cert.algebraic_KernelIdeal_ReferenceIdeal_pre_finite_decay (hKernelIdeal := Cert.KernelIdeal.Gen.facts)
    (hReferenceIdeal := Cert.ReferenceIdeal.Gen.facts) (hPre_finite_decay := Cert.Pre_finite_decay.Gen.facts) := by
  intro m ρ m' ρ' hpre hagree
  refine ⟨fun c => Cert.KernelIdeal.Value.G7 (F := Ideal) m c, Cert.KernelIdeal.Value.run (F := Ideal) m ρ, ?_⟩
  refine (θ_run Cert.ReferenceIdeal.defs _ _).mono (fun _ h c => ?_) (run_ref (F := Ideal) m' ρ')
  obtain ⟨e0, e1, e2, e3, e4, e5⟩ := hagree c
  refine ⟨(h c).1.trans ?_, (h c).2⟩
  unfold start
  rw [e0, e1, e2, e3, e4, e5]
  choose g hg using decay_real m hpre c
  exact array_ext _ _ fun b n t h v => (ref_at _ _ _ _ _ _ b n t h v).trans (result_at m c g hg b n t h v).symm

end Cert.Hgrn
-- ==== Proof.Tail.Block.lean ====
module

public import proofs.«01_k».proof.Proof.Gen.TailIdeal.Frame
public import proofs.«01_k».proof.Proof.Tail.Spec
public import Idealize.ShloMosaic.Lib.Pointwise
public import Idealize.ShloMosaic.Lib.Pipeline.ValueKit

@[expose] public section

set_option maxRecDepth 16384

noncomputable section

/-! What one grid point of the tail kernel computes: two groups of 256 rows, each row by `Spec`'s functions. -/

namespace Cert.Tail

open Cert.TailIdeal Cert.TailIdeal.Gen Idealize.ShloMosaic Idealize.ShloMosaic.TcCoe

variable (x0 : Vec Ideal S512x1024 .f32) (x1 x2 : Vec Ideal S1x1024 .f32) (x3 x4 : Vec Ideal S512x512 .bf16) (x5 x6 : Vec Ideal S512x1024 .bf16)
  (x7 : Vec Ideal S512x256 .f32) (x8 x9 : Vec Ideal S512x1024 .bf16) (x10 : Vec Ideal S1024x1024 .bf16) (x11 x12 : Vec Ideal S1x1024 .f32)
  (x13 : Vec Ideal S1024x4096 .bf16) (x14 : Vec Ideal S4096x1024 .bf16) (x15 : Vec Ideal S1024x1024 .bf16) (x16 : Vec Ideal S256x1024 .bf16)
  (x17 x18 : Vec Ideal S1x1024 .f32)

/-- The rows and matrices of a vector. -/
abbrev row {n p : ℕ} (x : (⟨2, ![n, p]⟩ : Shape).Idx → EReal) (r : Fin n) : Fin p → EReal := fun k => x (ix2 r k)
abbrev mat {n p : ℕ} (x : (⟨2, ![n, p]⟩ : Shape).Idx → EReal) : Fin n → Fin p → EReal := fun a b => x (ix2 a b)

/-- Row `r` of the block after the mixers. -/
def hAt (r : Fin 512) : Fin 1024 → EReal :=
  hRow (row x0 r) (row x1 0) (row x2 0) (row x3 r) (row x4 r) (row x5 r) (row x6 r) (mat x8) (mat x9) (mat x10) (row x11 0) (row x12 0)

/-- Row `r` of the block that the kernel leaves. -/
def outAt (r : Fin 512) : Fin 1024 → EReal :=
  lnRow (accRow (hAt x0 x1 x2 x3 x4 x5 x6 x8 x9 x10 x11 x12 r) (row x7 r) (mat x13) (mat x14) (mat x15) (mat x16)) (row x17 0) (row x18 0)

theorem pay24_apply (r : Fin 256) (j : Fin 1024) :
    k0_pay24 (F := Ideal) x0 x1 x2 x3 x4 x5 x6 x7 x8 x9 x10 x11 x12 x13 x14 x15 x16 x17 x18 (ix2 r j)
      = hAt x0 x1 x2 x3 x4 x5 x6 x8 x9 x10 x11 x12 ⟨r, by omega⟩ j := by
  pointwise [k0_pay24, k0_pay5, k0_pay2, k0_pay3, k0_pay4]
  rfl

theorem pay25_apply (r : Fin 256) (j : Fin 1024) :
    k0_pay25 (F := Ideal) x0 x1 x2 x3 x4 x5 x6 x7 x8 x9 x10 x11 x12 x13 x14 x15 x16 x17 x18 (ix2 r j)
      = hAt x0 x1 x2 x3 x4 x5 x6 x8 x9 x10 x11 x12 ⟨256 + r, by omega⟩ j := by
  pointwise [k0_pay25, k0_pay10, k0_pay7, k0_pay6, k0_pay8, k0_pay9]
  rfl

/-- The last part of a row group's work on rows `h`, with the group's rows of `p` loaded from row `o` on. -/
theorem lower_apply (v : FVec Ideal S256x1024 .f32) (r : Fin 256) (j : Fin 1024) :
    k0_pay18 (F := Ideal) (k0_pay15 (View.ld x18 r0_1)) (k0_pay16 (k0_pay11 v) (k0_pay13 v (k0_pay11 v) (k0_pay12 v (View.ld x15 r0_4)) (Scalar.ofBits .f32 0x3F000000#32) (View.ld x7 r0_7) (View.ld x16 r0_8) (View.ld x13 r0_9) (View.ld x14 r0_10) (View.ld x13 r0_11) (View.ld x14 r0_12)) (k0_pay14 (k0_pay11 v) (View.ld x13 r0_13)) (View.ld x14 r0_14) (View.ld x13 r0_15) (View.ld x14 r0_16)) (k0_pay17 (View.ld x17 r0_1)) (ix2 r j)
      = lnRow (accRow (row v r) (row x7 ⟨r, by omega⟩) (mat x13) (mat x14) (mat x15) (mat x16)) (row x17 0) (row x18 0) j := by
  pointwise [k0_pay18, k0_pay15, k0_pay16, k0_pay11, k0_pay13, k0_pay12, k0_pay14, k0_pay17]
  simp only [lnRow, mean, accRow, gateTanh, ffBlock, sqRelu, mv, Nat.zero_add]

theorem upper_apply (v : FVec Ideal S256x1024 .f32) (r : Fin 256) (j : Fin 1024) :
    k0_pay1 (F := Ideal) (k0_pay21 (k0_pay19 v) (k0_pay20 v (View.ld x15 r0_4) (View.ld x7 r0_17) (View.ld x16 r0_8) (View.ld x13 r0_9) (View.ld x14 r0_10)) (View.ld x13 r0_11) (View.ld x14 r0_12) (View.ld x13 r0_13) (View.ld x14 r0_14) (View.ld x13 r0_15) (View.ld x14 r0_16)) (k0_pay22 (View.ld x17 r0_1)) (k0_pay23 (View.ld x18 r0_1)) (ix2 r j)
      = lnRow (accRow (row v r) (row x7 ⟨256 + r, by omega⟩) (mat x13) (mat x14) (mat x15) (mat x16)) (row x17 0) (row x18 0) j := by
  pointwise [k0_pay1, k0_pay21, k0_pay19, k0_pay20, k0_pay22, k0_pay23]
  simp only [lnRow, mean, accRow, gateTanh, ffBlock, sqRelu, mv, Nat.zero_add]

theorem out_apply (r : Fin 512) (j : Fin 1024) :
    out0_19 (F := Ideal) x0 x1 x2 x3 x4 x5 x6 x7 x8 x9 x10 x11 x12 x13 x14 x15 x16 x17 x18 (ix2 r j)
      = outAt x0 x1 x2 x3 x4 x5 x6 x7 x8 x9 x10 x11 x12 x13 x14 x15 x16 x17 x18 r j := by
  unfold out0_19
  canon_tiles x h
  · idx_vars x
    have hr : r = ⟨256 + x0.1, by omega⟩ := Fin.ext h0
    have hj : j = x1 := Fin.ext h1
    rw [hr, hj]
    refine (upper_apply _ _ _ _ _ _ _ _ _ _).trans ?_
    unfold outAt
    rw [show row _ _ = _ from funext fun k => pay25_apply ..]
  · idx_vars x
    have hr : r = ⟨x0.1, by omega⟩ := Fin.ext h0
    have hj : j = x1 := Fin.ext h1
    rw [hr, hj]
    refine (lower_apply _ _ _ _ _ _ _ _ _ _).trans ?_
    unfold outAt
    rw [show row _ _ = _ from funext fun k => pay24_apply ..]

end Cert.Tail
-- ==== Proof.Tail.Ref.lean ====
module

public import proofs.«01_k».proof.Proof.Gen.TailRefIdeal.Read
public import proofs.«01_k».proof.Proof.Tail.Spec
public import Idealize.ShloMosaic.Lib.Pointwise

@[expose] public section

set_option maxRecDepth 16384

noncomputable section

namespace Cert.Tail

open Cert.TailRefIdeal Cert.TailRefIdeal.Gen Idealize.ShloMosaic Idealize.ShloMosaic.TcCoe
open Cert.TailRefIdeal.Read

/-- Row `R` of an array of 16 sequences of 4096 rows. -/
abbrev tok {n : ℕ} (x : (⟨3, ![16, 4096, n]⟩ : Shape).Idx → EReal) (R : Fin 65536) : Fin n → EReal :=
  fun k => x (ix3 ⟨R.1 / 4096, by omega⟩ ⟨R.1 % 4096, by omega⟩ k)
/-- The matrix, and the row, under a leading axis of size one. -/
abbrev mat1 {n p : ℕ} (x : (⟨3, ![1, n, p]⟩ : Shape).Idx → EReal) : Fin n → Fin p → EReal := fun a b => x (ix3 0 a b)

variable (x0 : FVec Ideal S16x4096x1024 .f32) (x1 x2 : FVec Ideal S1024 .f32) (x3 x4 : FVec Ideal S16x4096x512 .bf16)
  (x5 x6 : FVec Ideal S65536x1024 .bf16) (x7 : FVec Ideal S1x16x4096x256 .f32) (x8 x9 : FVec Ideal S1x512x1024 .f32)
  (x10 : FVec Ideal S1x1024x1024 .f32) (x11 x12 : FVec Ideal S1x1024 .f32) (x13 : FVec Ideal S1x1024x4096 .f32)
  (x14 : FVec Ideal S1x4096x1024 .f32) (x15 : FVec Ideal S1x1024x1024 .f32) (x16 : FVec Ideal S1x256x1024 .f32)
  (x17 x18 : FVec Ideal S1x1024 .f32)

/-- Token `R`'s row after the mixers, from the arguments. -/
def hTok (R : Fin 65536) : Fin 1024 → EReal :=
  hRow (tok x0 R) (fun k => x1 (ix1 k)) (fun k => x2 (ix1 k)) (tok x3 R) (tok x4 R) (fun k => x5 (ix2 R k)) (fun k => x6 (ix2 R k))
    (mat1 x8) (mat1 x9) (mat1 x10) (fun k => x11 (ix2 0 k)) (fun k => x12 (ix2 0 k))

/-- Token `R`'s row of `p`. -/
abbrev pTok (R : Fin 65536) : Fin 256 → EReal := fun k => x7 (ix4 0 ⟨R.1 / 4096, by omega⟩ ⟨R.1 % 4096, by omega⟩ k)

theorem ref_ln0 (R : Fin 65536) (j : Fin 1024) :
    val_main_v29 (F := Ideal) x0 x1 x2 (ix2 R j) = lnRow (tok x0 R) (fun k => x1 (ix1 k)) (fun k => x2 (ix1 k)) j := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v0, val_main_cst, val_main_cst_1, val_main_cst_2, val_main_cst_3]
  rfl

theorem ref_res (R : Fin 65536) (j : Fin 1024) :
    val_main_v43 (F := Ideal) x0 x1 x2 x3 x4 x5 x6 x8 x9 x10 (ix2 R j)
      = alpha * val_main_v29 (F := Ideal) x0 x1 x2 (ix2 R j)
        + mv (fun k => x5 (ix2 R k) * mv (tok x3 R) (mat1 x8) k + x6 (ix2 R k) * mv (tok x4 R) (mat1 x9) k) (mat1 x10) j := by
  pointwise [val_main_v43, val_main_v42, val_main_v41, val_main_v40, val_main_v39, val_main_v38, val_main_v37, val_main_v36, val_main_v35, val_main_v34, val_main_v33, val_main_v32, val_main_v31, val_main_v30, val_main_v4, val_main_v3, val_main_v2, val_main_v1, val_main_cst_4]
  rfl

theorem ref_h (R : Fin 65536) (j : Fin 1024) :
    val_main_v69 (F := Ideal) x0 x1 x2 x3 x4 x5 x6 x8 x9 x10 x11 x12 (ix2 R j) = hTok x0 x1 x2 x3 x4 x5 x6 x8 x9 x10 x11 x12 R j := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_cst_5, val_main_cst_6, val_main_cst_7, val_main_cst_8, val_main_cst_9]
  simp only [ref_res, ref_ln0]
  rfl

theorem ref_acc (R : Fin 65536) (j : Fin 1024) :
    val_main_v90 (F := Ideal) x0 x1 x2 x3 x4 x5 x6 x7 x8 x9 x10 x11 x12 x13 x14 x15 x16 (ix2 R j)
      = refRow (hTok x0 x1 x2 x3 x4 x5 x6 x8 x9 x10 x11 x12 R) (pTok x7 R) (mat1 x13) (mat1 x14) (mat1 x15) (mat1 x16) j := by
  pointwise [val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v5, val_main_call0_v0, val_main_call0_cst, val_main_cst_10, val_main_cst_11, val_main_cst_12]
  simp only [ref_h]
  rfl

theorem ref_apply (R : Fin 65536) (j : Fin 1024) :
    val_main_v116 (F := Ideal) x0 x1 x2 x3 x4 x5 x6 x7 x8 x9 x10 x11 x12 x13 x14 x15 x16 x17 x18 (ix2 R j)
      = lnRow (refRow (hTok x0 x1 x2 x3 x4 x5 x6 x8 x9 x10 x11 x12 R) (pTok x7 R) (mat1 x13) (mat1 x14) (mat1 x15) (mat1 x16))
          (fun k => x17 (ix2 0 k)) (fun k => x18 (ix2 0 k)) j := by
  pointwise [val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_cst_13, val_main_cst_14, val_main_cst_15, val_main_cst_16, val_main_cst_17]
  simp only [ref_acc]
  rfl

end Cert.Tail
-- ==== Proof.Tail.Array.lean ====
module

public import proofs.«01_k».proof.Proof.Gen.TailIdeal.Value
public import proofs.«01_k».proof.Proof.Tail.Block
public import proofs.«01_k».proof.Proof.Tail.Ref
public import Idealize.ShloMosaic.Lib.Claim
public import Idealize.ShloMosaic.Lib.Pipeline.ValueKit.Point

@[expose] public section

set_option maxRecDepth 16384

noncomputable section

/-! What the tail kernel's result array holds: grid point `t` writes rows `512 t` to `512 t + 511`. -/

namespace Cert.Tail

open Cert.TailIdeal Cert.TailIdeal.Gen Idealize.ShloMosaic Idealize.ShloMosaic.TcCoe

variable (m : (ℓ : Loc nD τ sig) → Buf (Elt Ideal) ℓ) (c : Dev nD)

/-- The array row that is row `r` of point `t`'s block. -/
abbrev tokOf (t : Fin cfg0.N) (r : Fin 512) : Fin 65536 := ⟨512 * t.1 + r.1, by have := t.2; have h : cfg0.N = 128 := rfl; omega⟩

theorem idx_row : ∀ t : Fin cfg0.N, win0_0.index t = ![t.1, 0] ∧ win0_3.index t = ![t.1, 0] ∧ win0_4.index t = ![t.1, 0]
    ∧ win0_5.index t = ![t.1, 0] ∧ win0_6.index t = ![t.1, 0] ∧ win0_7.index t = ![t.1, 0] ∧ win0_19.index t = ![t.1, 0] :=
  (by decide +kernel : ∀ t : Fin grid0.N, win0_0.index t = ![t.1, 0] ∧ win0_3.index t = ![t.1, 0] ∧ win0_4.index t = ![t.1, 0]
    ∧ win0_5.index t = ![t.1, 0] ∧ win0_6.index t = ![t.1, 0] ∧ win0_7.index t = ![t.1, 0] ∧ win0_19.index t = ![t.1, 0])

theorem idx_whole : ∀ t : Fin cfg0.N, win0_1.index t = ![0, 0] ∧ win0_2.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] :=
  (by decide +kernel : ∀ t : Fin grid0.N, win0_1.index t = ![0, 0] ∧ win0_2.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0])

/-- The row of the kernel's result for token `R`, from the arguments. -/
def kTok (R : Fin 65536) : Fin 1024 → EReal :=
  lnRow (accRow (hTok (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) R) (pTok (m ((c : Thread nD τ).loc main_arg7)) R)
      (mat1 (m ((c : Thread nD τ).loc main_arg13))) (mat1 (m ((c : Thread nD τ).loc main_arg14))) (mat1 (m ((c : Thread nD τ).loc main_arg15))) (mat1 (m ((c : Thread nD τ).loc main_arg16))))
    (fun k => (m ((c : Thread nD τ).loc main_arg17)) (ix2 0 k)) (fun k => (m ((c : Thread nD τ).loc main_arg18)) (ix2 0 k))

/-! The windows' blocks: rows of 512 tokens, one row, or a whole weight. -/

theorem blk0 (t : Fin cfg0.N) (r : Fin 512) (k : Fin 1024) : iblk m c 0 t (ix2 r k) = tok (m ((c : Thread nD τ).loc main_arg0)) (tokOf t r) k := by
  blk_ext! [iblk, idx_row t]

theorem blk1 (t : Fin cfg0.N) (k : Fin 1024) : iblk m c 1 t (ix2 (0 : Fin 1) k) = (m ((c : Thread nD τ).loc main_arg1)) (ix1 k) := by
  blk_ext! [iblk, idx_whole t]

theorem blk2 (t : Fin cfg0.N) (k : Fin 1024) : iblk m c 2 t (ix2 (0 : Fin 1) k) = (m ((c : Thread nD τ).loc main_arg2)) (ix1 k) := by
  blk_ext! [iblk, idx_whole t]

theorem blk3 (t : Fin cfg0.N) (r : Fin 512) (k : Fin 512) : iblk m c 3 t (ix2 r k) = tok (m ((c : Thread nD τ).loc main_arg3)) (tokOf t r) k := by
  blk_ext! [iblk, idx_row t]

theorem blk4 (t : Fin cfg0.N) (r : Fin 512) (k : Fin 512) : iblk m c 4 t (ix2 r k) = tok (m ((c : Thread nD τ).loc main_arg4)) (tokOf t r) k := by
  blk_ext! [iblk, idx_row t]

theorem blk5 (t : Fin cfg0.N) (r : Fin 512) (k : Fin 1024) : iblk m c 5 t (ix2 r k) = (m ((c : Thread nD τ).loc main_arg5)) (ix2 (tokOf t r) k) := by
  blk_ext! [iblk, idx_row t]

theorem blk6 (t : Fin cfg0.N) (r : Fin 512) (k : Fin 1024) : iblk m c 6 t (ix2 r k) = (m ((c : Thread nD τ).loc main_arg6)) (ix2 (tokOf t r) k) := by
  blk_ext! [iblk, idx_row t]

theorem blk7 (t : Fin cfg0.N) (r : Fin 512) (k : Fin 256) : iblk m c 7 t (ix2 r k) = pTok (m ((c : Thread nD τ).loc main_arg7)) (tokOf t r) k := by
  blk_ext! [iblk, idx_row t]

theorem blk8 (t : Fin cfg0.N) (r : Fin 512) (k : Fin 1024) : iblk m c 8 t (ix2 r k) = mat1 (m ((c : Thread nD τ).loc main_arg8)) r k := by
  blk_ext! [iblk, idx_whole t]

theorem blk9 (t : Fin cfg0.N) (r : Fin 512) (k : Fin 1024) : iblk m c 9 t (ix2 r k) = mat1 (m ((c : Thread nD τ).loc main_arg9)) r k := by
  blk_ext! [iblk, idx_whole t]

theorem blk10 (t : Fin cfg0.N) (r : Fin 1024) (k : Fin 1024) : iblk m c 10 t (ix2 r k) = mat1 (m ((c : Thread nD τ).loc main_arg10)) r k := by
  blk_ext! [iblk, idx_whole t]

theorem blk11 (t : Fin cfg0.N) (k : Fin 1024) : iblk m c 11 t (ix2 (0 : Fin 1) k) = (m ((c : Thread nD τ).loc main_arg11)) (ix2 0 k) := by
  blk_ext! [iblk, idx_whole t]

theorem blk12 (t : Fin cfg0.N) (k : Fin 1024) : iblk m c 12 t (ix2 (0 : Fin 1) k) = (m ((c : Thread nD τ).loc main_arg12)) (ix2 0 k) := by
  blk_ext! [iblk, idx_whole t]

theorem blk13 (t : Fin cfg0.N) (r : Fin 1024) (k : Fin 4096) : iblk m c 13 t (ix2 r k) = mat1 (m ((c : Thread nD τ).loc main_arg13)) r k := by
  blk_ext! [iblk, idx_whole t]

theorem blk14 (t : Fin cfg0.N) (r : Fin 4096) (k : Fin 1024) : iblk m c 14 t (ix2 r k) = mat1 (m ((c : Thread nD τ).loc main_arg14)) r k := by
  blk_ext! [iblk, idx_whole t]

theorem blk15 (t : Fin cfg0.N) (r : Fin 1024) (k : Fin 1024) : iblk m c 15 t (ix2 r k) = mat1 (m ((c : Thread nD τ).loc main_arg15)) r k := by
  blk_ext! [iblk, idx_whole t]

theorem blk16 (t : Fin cfg0.N) (r : Fin 256) (k : Fin 1024) : iblk m c 16 t (ix2 r k) = mat1 (m ((c : Thread nD τ).loc main_arg16)) r k := by
  blk_ext! [iblk, idx_whole t]

theorem blk17 (t : Fin cfg0.N) (k : Fin 1024) : iblk m c 17 t (ix2 (0 : Fin 1) k) = (m ((c : Thread nD τ).loc main_arg17)) (ix2 0 k) := by
  blk_ext! [iblk, idx_whole t]

theorem blk18 (t : Fin cfg0.N) (k : Fin 1024) : iblk m c 18 t (ix2 (0 : Fin 1) k) = (m ((c : Thread nD τ).loc main_arg18)) (ix2 0 k) := by
  blk_ext! [iblk, idx_whole t]

theorem point (t : Fin cfg0.N) (r : Fin 512) (j : Fin 1024) :
    outAt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) r j = kTok m c (tokOf t r) j := by
  unfold outAt kTok hAt hTok
  have h := congr (congr (congr (congr (congr (congr (congr (congr (congr (congr (congr (congrArg hRow (funext fun k => blk0 m c t r k)) (funext fun k => blk1 m c t k)) (funext fun k => blk2 m c t k)) (funext fun k => blk3 m c t r k)) (funext fun k => blk4 m c t r k)) (funext fun k => blk5 m c t r k)) (funext fun k => blk6 m c t r k)) (funext fun a => funext fun k => blk8 m c t a k)) (funext fun a => funext fun k => blk9 m c t a k)) (funext fun a => funext fun k => blk10 m c t a k)) (funext fun k => blk11 m c t k)) (funext fun k => blk12 m c t k)
  have a := congr (congr (congr (congr (congr (congrArg accRow h) (funext fun k => blk7 m c t r k)) (funext fun a => funext fun k => blk13 m c t a k)) (funext fun a => funext fun k => blk14 m c t a k)) (funext fun a => funext fun k => blk15 m c t a k)) (funext fun a => funext fun k => blk16 m c t a k)
  exact congrFun (congr (congr (congrArg lnRow a) (funext fun k => blk17 m c t k)) (funext fun k => blk18 m c t k)) j

/-- The result array. -/
theorem arr_eq : (dats m 0 c).arrAt 19 cfg0.N = fun y => kTok m c (y 0) (y 1) := by
  refine (dats m 0 c).arrAt_eq_of_covers 19 _ (by decide +kernel) fun t hf y => ?_
  blk_simp [idx_row t]
  rw [after0_19]
  idx_vars y
  refine (out_apply ..).trans ((point m c t _ _).trans ?_)
  congr 1 <;> apply Fin.ext <;> blk_simp [idx_row t] <;> (dsimp only [tokOf]; omega)

end Cert.Tail
-- ==== Proof.Tail.Claim.lean ====
module

public import proofs.«01_k».proof.Defs
public import proofs.«01_k».proof.Proof.Gen.Tail.Frame
public import proofs.«01_k».proof.Proof.Tail.Array
public import proofs.«01_k».proof.Proof.Tail.Equation
public import Idealize.ShloMosaic.Lib.Quiescent

@[expose] public section

set_option maxRecDepth 16384

noncomputable section

/-! The tail kernel and its reference leave the same array. -/

namespace Cert.Tail

open Idealize.ShloMosaic Idealize.ShloMosaic.TcCoe Idealize.SL.Sem Idealize.ShloMosaic.StableHlo

theorem frame_ref : Cert.quiescent_TailRefIdeal (hTailRefIdeal := Cert.TailRefIdeal.Gen.facts) := fun m ρ _ =>
  (θ_run Cert.TailRefIdeal.defs _ _).mono (fun r h => ⟨fun c => (h c).2, sem_eq_zero_of_no_sems (by decide) r.2⟩)
    (Cert.TailRefIdeal.Value.run (F := Ideal) m ρ)

theorem algebraic : Cert.algebraic_TailIdeal_TailRefIdeal (hTailIdeal := Cert.TailIdeal.Gen.facts) (hTailRefIdeal := Cert.TailRefIdeal.Gen.facts) := by
  intro m ρ m' ρ' _ hagree
  refine ⟨_, Cert.TailIdeal.Value.run_blocks (F := Ideal) m ρ, ?_⟩
  refine (θ_run Cert.TailRefIdeal.defs _ _).mono (fun _ h c => ⟨?_, (h c).2⟩) (Cert.TailRefIdeal.Value.run (F := Ideal) m' ρ')
  refine (h c).1.trans ((Cert.TailRefIdeal.Read.val_main_v116_eq _).trans ?_)
  obtain ⟨e0, e1, e2, e3, e4, e5, e6, e7, e8, e9, e10, e11, e12, e13, e14, e15, e16, e17, e18⟩ := hagree c
  rw [arr_eq]
  funext y
  simp only [launchContents_devRef, e0, e1, e2, e3, e4, e5, e6, e7, e8, e9, e10, e11, e12, e13, e14, e15, e16, e17, e18]
  rw [eq_ix2 y]
  refine (ref_apply ..).trans ?_
  rw [← acc_eq]
  rfl

end Cert.Tail
-- ==== Proof.lean ====
module

public import proofs.«01_k».proof.Defs
public import proofs.«01_k».proof.Proof.Gen.Kernel.Frame
public import proofs.«01_k».proof.Proof.Hgrn.Claim
public import proofs.«01_k».proof.Proof.Gen.Tail.Frame
public import proofs.«01_k».proof.Proof.Tail.Claim
public import proofs.«01_k».proof.Proof.Inproj.Body
public import proofs.«01_k».proof.Proof.Inproj.Claim
public import Idealize.ShloMosaic.Adequacy
public import Idealize.ShloMosaic.Init
public import Idealize.ShloMosaic.Lib.Quiescent

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Tail.Gen.facts, Cert.TailIdeal.Gen.facts,
    Cert.TailRefIdeal.Gen.facts, Cert.Inproj.Gen.facts, Cert.InprojIdeal.Gen.facts, Cert.InprojRefIdeal.Gen.facts,
    Cert.Pre_finite_decay.Gen.facts, Cert.Pre_finite_bound.Gen.facts,
    fun m ρ _ => Cert.Kernel.Gen.frame m ρ, fun m ρ _ => Cert.KernelIdeal.Gen.frame m ρ, fun m ρ _ => Cert.KernelIdeal.Gen.frame m ρ,
    Cert.Hgrn.frame_ref, fun m ρ _ => Cert.Hgrn.frame_ref m ρ trivial,
    fun m ρ _ => Cert.Tail.Gen.frame m ρ, fun m ρ _ => Cert.TailIdeal.Gen.frame m ρ, Cert.Tail.frame_ref,
    fun m ρ _ => Cert.Inproj.Run.frame m ρ, fun m ρ _ => Cert.InprojIdeal.Run.frame m ρ, fun m ρ _ => Cert.InprojIdeal.Run.frame m ρ,
    Cert.Proj.frame_ref, fun m ρ _ => Cert.Proj.frame_ref m ρ trivial,
    trivial, Cert.Hgrn.algebraic, trivial, Cert.Tail.algebraic, trivial, Cert.Proj.algebraic⟩

end Cert.Proof

end
